-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S4x512x4096 : Shape := ⟨3, ![4, 512, 4096]⟩
abbrev S4x512x2048 : Shape := ⟨3, ![4, 512, 2048]⟩
abbrev S3x3x64x2048 : Shape := ⟨4, ![3, 3, 64, 2048]⟩
abbrev S4 : Shape := ⟨1, ![4]⟩
abbrev S3 : Shape := ⟨1, ![3]⟩
abbrev S3x3 : Shape := ⟨2, ![3, 3]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S1x512x2048 : Shape := ⟨3, ![1, 512, 2048]⟩
abbrev S512x2048 : Shape := ⟨2, ![512, 2048]⟩
abbrev S64x4096 : Shape := ⟨2, ![64, 4096]⟩
abbrev S64x512 : Shape := ⟨2, ![64, 512]⟩
abbrev S1x1 : Shape := ⟨2, ![1, 1]⟩
abbrev S1x1x64x2048 : Shape := ⟨4, ![1, 1, 64, 2048]⟩

abbrev nBuf : Space → Nat
  | .hbm => 8
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S4x512x4096, .f32⟩
  | .local _ .vmem, ⟨3, _⟩ => ⟨S4x512x2048, .f32⟩
  | .local _ .vmem, ⟨4, _⟩ => ⟨S64x2048, .bf16⟩
  | .local _ .vmem, ⟨5, _⟩ => ⟨S3x3x64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_215 : BitVec 32 := 1#32
  let v233 : BitVec 32 := Scalar.addi v2 c1_i32_215
  let c4_i32_216 : BitVec 32 := 4#32
  let c0_i32_217 : BitVec 32 := 0#32
  let v234 : BitVec 1 := Scalar.cmpi .eq c4_i32_216 c0_i32_217
  let c1_i32_218 : BitVec 32 := 1#32
  let v235 : BitVec 32 := Scalar.select v234 c1_i32_218 c4_i32_216
  let v236 : BitVec 32 := Scalar.remsi v233 v235
  let c0_i32_220 : BitVec 32 := 0#32
  let v238 : BitVec 1 := Scalar.cmpi .slt v236 c0_i32_220
  let c0_i32_221 : BitVec 32 := 0#32
  let v239 : BitVec 1 := Scalar.cmpi .slt v235 c0_i32_221
  let v240 : BitVec 1 := Scalar.xori v238 v239
  let c0_i32_219 : BitVec 32 := 0#32
  let v237 : BitVec 1 := Scalar.cmpi .ne v236 c0_i32_219
  let v241 : BitVec 1 := Scalar.andi v240 v237
  let v242 : BitVec 32 := Scalar.addi v236 v235
  let v243 : BitVec 32 := Scalar.select v241 v242 v236
  let c1_i32_227 : BitVec 32 := 1#32
  let v244 : BitVec 32 := Scalar.muli v243 c1_i32_227
  let v245 : BitVec 32 := Scalar.addi c0_i32_228 v244
  v245.toNat
def k0_dev5 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_231 : BitVec 32 := 2#32
  let v252 : BitVec 32 := Scalar.addi v2 c2_i32_231
  let c4_i32_232 : BitVec 32 := 4#32
  let c0_i32_233 : BitVec 32 := 0#32
  let v253 : BitVec 1 := Scalar.cmpi .eq c4_i32_232 c0_i32_233
  let c1_i32_234 : BitVec 32 := 1#32
  let v254 : BitVec 32 := Scalar.select v253 c1_i32_234 c4_i32_232
  let v255 : BitVec 32 := Scalar.remsi v252 v254
  let c0_i32_236 : BitVec 32 := 0#32
  let v257 : BitVec 1 := Scalar.cmpi .slt v255 c0_i32_236
  let c0_i32_237 : BitVec 32 := 0#32
  let v258 : BitVec 1 := Scalar.cmpi .slt v254 c0_i32_237
  let v259 : BitVec 1 := Scalar.xori v257 v258
  let c0_i32_235 : BitVec 32 := 0#32
  let v256 : BitVec 1 := Scalar.cmpi .ne v255 c0_i32_235
  let v260 : BitVec 1 := Scalar.andi v259 v256
  let v261 : BitVec 32 := Scalar.addi v255 v254
  let v262 : BitVec 32 := Scalar.select v260 v261 v255
  let c1_i32_243 : BitVec 32 := 1#32
  let v263 : BitVec 32 := Scalar.muli v262 c1_i32_243
  let v264 : BitVec 32 := Scalar.addi c0_i32_244 v263
  v264.toNat
def k0_dev6 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_247 : BitVec 32 := 3#32
  let v271 : BitVec 32 := Scalar.addi v2 c3_i32_247
  let c4_i32_248 : BitVec 32 := 4#32
  let c0_i32_249 : BitVec 32 := 0#32
  let v272 : BitVec 1 := Scalar.cmpi .eq c4_i32_248 c0_i32_249
  let c1_i32_250 : BitVec 32 := 1#32
  let v273 : BitVec 32 := Scalar.select v272 c1_i32_250 c4_i32_248
  let v274 : BitVec 32 := Scalar.remsi v271 v273
  let c0_i32_252 : BitVec 32 := 0#32
  let v276 : BitVec 1 := Scalar.cmpi .slt v274 c0_i32_252
  let c0_i32_253 : BitVec 32 := 0#32
  let v277 : BitVec 1 := Scalar.cmpi .slt v273 c0_i32_253
  let v278 : BitVec 1 := Scalar.xori v276 v277
  let c0_i32_251 : BitVec 32 := 0#32
  let v275 : BitVec 1 := Scalar.cmpi .ne v274 c0_i32_251
  let v279 : BitVec 1 := Scalar.andi v278 v275
  let v280 : BitVec 32 := Scalar.addi v274 v273
  let v281 : BitVec 32 := Scalar.select v279 v280 v274
  let c1_i32_259 : BitVec 32 := 1#32
  let v282 : BitVec 32 := Scalar.muli v281 c1_i32_259
  let v283 : BitVec 32 := Scalar.addi c0_i32_260 v282
  v283.toNat
def k0_dev7 (d0 : Dev nD) : Nat :=
  let c0_i32_578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_565 : BitVec 32 := 1#32
  let v586 : BitVec 32 := Scalar.addi v2 c1_i32_565
  let c4_i32_566 : BitVec 32 := 4#32
  let c0_i32_567 : BitVec 32 := 0#32
  let v587 : BitVec 1 := Scalar.cmpi .eq c4_i32_566 c0_i32_567
  let c1_i32_568 : BitVec 32 := 1#32
  let v588 : BitVec 32 := Scalar.select v587 c1_i32_568 c4_i32_566
  let v589 : BitVec 32 := Scalar.remsi v586 v588
  let c0_i32_570 : BitVec 32 := 0#32
  let v591 : BitVec 1 := Scalar.cmpi .slt v589 c0_i32_570
  let c0_i32_571 : BitVec 32 := 0#32
  let v592 : BitVec 1 := Scalar.cmpi .slt v588 c0_i32_571
  let v593 : BitVec 1 := Scalar.xori v591 v592
  let c0_i32_569 : BitVec 32 := 0#32
  let v590 : BitVec 1 := Scalar.cmpi .ne v589 c0_i32_569
  let v594 : BitVec 1 := Scalar.andi v593 v590
  let v595 : BitVec 32 := Scalar.addi v589 v588
  let v596 : BitVec 32 := Scalar.select v594 v595 v589
  let c1_i32_577 : BitVec 32 := 1#32
  let v597 : BitVec 32 := Scalar.muli v596 c1_i32_577
  let v598 : BitVec 32 := Scalar.addi c0_i32_578 v597
  v598.toNat
def k0_dev8 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_581 : BitVec 32 := 2#32
  let v605 : BitVec 32 := Scalar.addi v2 c2_i32_581
  let c4_i32_582 : BitVec 32 := 4#32
  let c0_i32_583 : BitVec 32 := 0#32
  let v606 : BitVec 1 := Scalar.cmpi .eq c4_i32_582 c0_i32_583
  let c1_i32_584 : BitVec 32 := 1#32
  let v607 : BitVec 32 := Scalar.select v606 c1_i32_584 c4_i32_582
  let v608 : BitVec 32 := Scalar.remsi v605 v607
  let c0_i32_586 : BitVec 32 := 0#32
  let v610 : BitVec 1 := Scalar.cmpi .slt v608 c0_i32_586
  let c0_i32_587 : BitVec 32 := 0#32
  let v611 : BitVec 1 := Scalar.cmpi .slt v607 c0_i32_587
  let v612 : BitVec 1 := Scalar.xori v610 v611
  let c0_i32_585 : BitVec 32 := 0#32
  let v609 : BitVec 1 := Scalar.cmpi .ne v608 c0_i32_585
  let v613 : BitVec 1 := Scalar.andi v612 v609
  let v614 : BitVec 32 := Scalar.addi v608 v607
  let v615 : BitVec 32 := Scalar.select v613 v614 v608
  let c1_i32_593 : BitVec 32 := 1#32
  let v616 : BitVec 32 := Scalar.muli v615 c1_i32_593
  let v617 : BitVec 32 := Scalar.addi c0_i32_594 v616
  v617.toNat
def k0_dev9 (d0 : Dev nD) : Nat :=
  let c0_i32_610 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_597 : BitVec 32 := 3#32
  let v624 : BitVec 32 := Scalar.addi v2 c3_i32_597
  let c4_i32_598 : BitVec 32 := 4#32
  let c0_i32_599 : BitVec 32 := 0#32
  let v625 : BitVec 1 := Scalar.cmpi .eq c4_i32_598 c0_i32_599
  let c1_i32_600 : BitVec 32 := 1#32
  let v626 : BitVec 32 := Scalar.select v625 c1_i32_600 c4_i32_598
  let v627 : BitVec 32 := Scalar.remsi v624 v626
  let c0_i32_602 : BitVec 32 := 0#32
  let v629 : BitVec 1 := Scalar.cmpi .slt v627 c0_i32_602
  let c0_i32_603 : BitVec 32 := 0#32
  let v630 : BitVec 1 := Scalar.cmpi .slt v626 c0_i32_603
  let v631 : BitVec 1 := Scalar.xori v629 v630
  let c0_i32_601 : BitVec 32 := 0#32
  let v628 : BitVec 1 := Scalar.cmpi .ne v627 c0_i32_601
  let v632 : BitVec 1 := Scalar.andi v631 v628
  let v633 : BitVec 32 := Scalar.addi v627 v626
  let v634 : BitVec 32 := Scalar.select v632 v633 v627
  let c1_i32_609 : BitVec 32 := 1#32
  let v635 : BitVec 32 := Scalar.muli v634 c1_i32_609
  let v636 : BitVec 32 := Scalar.addi c0_i32_610 v635
  v636.toNat
def k0_dev10 (d0 : Dev nD) : Nat :=
  let c0_i32_928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_915 : BitVec 32 := 1#32
  let v939 : BitVec 32 := Scalar.addi v2 c1_i32_915
  let c4_i32_916 : BitVec 32 := 4#32
  let c0_i32_917 : BitVec 32 := 0#32
  let v940 : BitVec 1 := Scalar.cmpi .eq c4_i32_916 c0_i32_917
  let c1_i32_918 : BitVec 32 := 1#32
  let v941 : BitVec 32 := Scalar.select v940 c1_i32_918 c4_i32_916
  let v942 : BitVec 32 := Scalar.remsi v939 v941
  let c0_i32_920 : BitVec 32 := 0#32
  let v944 : BitVec 1 := Scalar.cmpi .slt v942 c0_i32_920
  let c0_i32_921 : BitVec 32 := 0#32
  let v945 : BitVec 1 := Scalar.cmpi .slt v941 c0_i32_921
  let v946 : BitVec 1 := Scalar.xori v944 v945
  let c0_i32_919 : BitVec 32 := 0#32
  let v943 : BitVec 1 := Scalar.cmpi .ne v942 c0_i32_919
  let v947 : BitVec 1 := Scalar.andi v946 v943
  let v948 : BitVec 32 := Scalar.addi v942 v941
  let v949 : BitVec 32 := Scalar.select v947 v948 v942
  let c1_i32_927 : BitVec 32 := 1#32
  let v950 : BitVec 32 := Scalar.muli v949 c1_i32_927
  let v951 : BitVec 32 := Scalar.addi c0_i32_928 v950
  v951.toNat
def k0_dev11 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_931 : BitVec 32 := 2#32
  let v958 : BitVec 32 := Scalar.addi v2 c2_i32_931
  let c4_i32_932 : BitVec 32 := 4#32
  let c0_i32_933 : BitVec 32 := 0#32
  let v959 : BitVec 1 := Scalar.cmpi .eq c4_i32_932 c0_i32_933
  let c1_i32_934 : BitVec 32 := 1#32
  let v960 : BitVec 32 := Scalar.select v959 c1_i32_934 c4_i32_932
  let v961 : BitVec 32 := Scalar.remsi v958 v960
  let c0_i32_936 : BitVec 32 := 0#32
  let v963 : BitVec 1 := Scalar.cmpi .slt v961 c0_i32_936
  let c0_i32_937 : BitVec 32 := 0#32
  let v964 : BitVec 1 := Scalar.cmpi .slt v960 c0_i32_937
  let v965 : BitVec 1 := Scalar.xori v963 v964
  let c0_i32_935 : BitVec 32 := 0#32
  let v962 : BitVec 1 := Scalar.cmpi .ne v961 c0_i32_935
  let v966 : BitVec 1 := Scalar.andi v965 v962
  let v967 : BitVec 32 := Scalar.addi v961 v960
  let v968 : BitVec 32 := Scalar.select v966 v967 v961
  let c1_i32_943 : BitVec 32 := 1#32
  let v969 : BitVec 32 := Scalar.muli v968 c1_i32_943
  let v970 : BitVec 32 := Scalar.addi c0_i32_944 v969
  v970.toNat
def k0_dev12 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_947 : BitVec 32 := 3#32
  let v977 : BitVec 32 := Scalar.addi v2 c3_i32_947
  let c4_i32_948 : BitVec 32 := 4#32
  let c0_i32_949 : BitVec 32 := 0#32
  let v978 : BitVec 1 := Scalar.cmpi .eq c4_i32_948 c0_i32_949
  let c1_i32_950 : BitVec 32 := 1#32
  let v979 : BitVec 32 := Scalar.select v978 c1_i32_950 c4_i32_948
  let v980 : BitVec 32 := Scalar.remsi v977 v979
  let c0_i32_952 : BitVec 32 := 0#32
  let v982 : BitVec 1 := Scalar.cmpi .slt v980 c0_i32_952
  let c0_i32_953 : BitVec 32 := 0#32
  let v983 : BitVec 1 := Scalar.cmpi .slt v979 c0_i32_953
  let v984 : BitVec 1 := Scalar.xori v982 v983
  let c0_i32_951 : BitVec 32 := 0#32
  let v981 : BitVec 1 := Scalar.cmpi .ne v980 c0_i32_951
  let v985 : BitVec 1 := Scalar.andi v984 v981
  let v986 : BitVec 32 := Scalar.addi v980 v979
  let v987 : BitVec 32 := Scalar.select v985 v986 v980
  let c1_i32_959 : BitVec 32 := 1#32
  let v988 : BitVec 32 := Scalar.muli v987 c1_i32_959
  let v989 : BitVec 32 := Scalar.addi c0_i32_960 v988
  v989.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x16384 : Shape := ⟨2, ![2048, 16384]⟩
abbrev S16384x2048 : Shape := ⟨2, ![16384, 2048]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x16384, .f32⟩
  | .hbm, ⟨2, _⟩ => ⟨S16384x2048, .f32⟩
  | .hbm, ⟨3, _⟩ => ⟨S2048x16384, .f32⟩
  | .hbm, ⟨4, _⟩ => ⟨S16384x2048, .f32⟩
  | .hbm, ⟨5, _⟩ => ⟨S2048x16384, .f32⟩
  | .hbm, ⟨6, _⟩ => ⟨S16384x2048, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x2048, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x2048, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.RunIdealProtocol.lean ====
/-
The protocol of the kernel's program: which semaphore is paid by whom, how much, in which order, and what each landing
buffer holds once it is paid.

On four devices. `peer t c` is the device `t` places after `c`.

  * The barrier of `c` (the runtime's). One round of three units, one from each other device. The unit of `peer (k + 1) c`
    hands `c` the landing slots `(l, k)` of that device, all three layers `l`: the places `c` copies into.
  * The receive cell `(l, k)` of `c`. One round, one copy: layer `l`'s from the device `peer (3 - k) c`, whose block the
    landing slot `(l, k)` then holds.
  * The send cell `k` of `c`. Three rounds, one for each layer; each hands back one third of the share of the send buffer.
  * The eight cells of the weight blocks are the device's own: counters at zero between uses.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the cells between devices; a round has at most three duties. -/
abbrev UB : Type := URounds (GSem nD τ sig) (Fin 3)
/-- The pipeline's rounds, those of the cells between devices, and the counters of the weight copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds in the machine's resource. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER : Emb UB 𝕄).LandsIn (upEmb : UEmb _ 𝕄) := by unfold ER; infer_instance

/-! ## The ring of devices -/

/-- The device `t` places after `c`. -/
def peer (t : ℕ) (c : Dev nD) : Dev nD := ⟨(c.val + t) % nD, Nat.mod_lt _ (by decide)⟩

theorem dev1_eq (c : Dev nD) : (⟨k0_dev1 c, k0_dev1_lt c⟩ : Dev nD) = peer 1 c := by revert c; decide
theorem dev2_eq (c : Dev nD) : (⟨k0_dev2 c, k0_dev2_lt c⟩ : Dev nD) = peer 2 c := by revert c; decide
theorem dev3_eq (c : Dev nD) : (⟨k0_dev3 c, k0_dev3_lt c⟩ : Dev nD) = peer 3 c := by revert c; decide
theorem dev4_eq (c : Dev nD) : (⟨k0_dev4 c, k0_dev4_lt c⟩ : Dev nD) = peer 1 c := by revert c; decide
theorem dev5_eq (c : Dev nD) : (⟨k0_dev5 c, k0_dev5_lt c⟩ : Dev nD) = peer 2 c := by revert c; decide
theorem dev6_eq (c : Dev nD) : (⟨k0_dev6 c, k0_dev6_lt c⟩ : Dev nD) = peer 3 c := by revert c; decide
theorem dev7_eq (c : Dev nD) : (⟨k0_dev7 c, k0_dev7_lt c⟩ : Dev nD) = peer 1 c := by revert c; decide
theorem dev8_eq (c : Dev nD) : (⟨k0_dev8 c, k0_dev8_lt c⟩ : Dev nD) = peer 2 c := by revert c; decide
theorem dev9_eq (c : Dev nD) : (⟨k0_dev9 c, k0_dev9_lt c⟩ : Dev nD) = peer 3 c := by revert c; decide
theorem dev10_eq (c : Dev nD) : (⟨k0_dev10 c, k0_dev10_lt c⟩ : Dev nD) = peer 1 c := by revert c; decide
theorem dev11_eq (c : Dev nD) : (⟨k0_dev11 c, k0_dev11_lt c⟩ : Dev nD) = peer 2 c := by revert c; decide
theorem dev12_eq (c : Dev nD) : (⟨k0_dev12 c, k0_dev12_lt c⟩ : Dev nD) = peer 3 c := by revert c; decide

/-! ## The memrefs -/

abbrev xM : Memref sig .tc .vmem S64x2048 .f32 := Memref.whole cc0_stg0_0
abbrev oM : Memref sig .tc .vmem S64x2048 .f32 := Memref.whole cc0_stg1_0
abbrev winM : Memref sig .tc .vmem S4x512x4096 .f32 := Memref.whole cc0_scratch0
abbrev woutM : Memref sig .tc .vmem S4x512x2048 .f32 := Memref.whole cc0_scratch1
abbrev sndM : Memref sig .tc .vmem S64x2048 .bf16 := Memref.whole cc0_scratch2
abbrev rcvM : Memref sig .tc .vmem S3x3x64x2048 .bf16 := Memref.whole cc0_scratch3

abbrev winOff (j : Fin 4) : Fin 3 → Nat := ![j.val, 0, 0]
theorem winOff_inb (j : Fin 4) : ∀ a, winOff j a + S1x512x4096.size a ≤ S4x512x4096.size a := by revert j; decide
theorem woutOff_inb (j : Fin 4) : ∀ a, winOff j a + S1x512x2048.size a ≤ S4x512x2048.size a := by revert j; decide
abbrev rcvOff (l k : Fin 3) : Fin 4 → Nat := ![l.val, k.val, 0, 0]
theorem rcvOff_inb (l k : Fin 3) : ∀ a, rcvOff l k a + S1x1x64x2048.size a ≤ S3x3x64x2048.size a := by revert l k; decide

/-- Slot `j` of the ring of the first weights. -/
def wslot (j : Fin 4) : Memref sig .tc .vmem S512x4096 .f32 :=
  (winM.slice (Rect.unit (s := S4x512x4096) (winOff j) S1x512x4096.size (winOff_inb j)) (fun _ => rfl)).squeeze S512x4096 squeezes_S1x512x4096_S512x4096
/-- Slot `j` of the ring of the second weights. -/
def oslot (j : Fin 4) : Memref sig .tc .vmem S512x2048 .f32 :=
  (woutM.slice (Rect.unit (s := S4x512x2048) (winOff j) S1x512x2048.size (woutOff_inb j)) (fun _ => rfl)).squeeze S512x2048 squeezes_S1x512x2048_S512x2048
/-- The landing slot of layer `l` and slot `k`. -/
def rslot (l k : Fin 3) : Memref sig .tc .vmem S64x2048 .bf16 :=
  (rcvM.slice (Rect.unit (s := S3x3x64x2048) (rcvOff l k) S1x1x64x2048.size (rcvOff_inb l k)) (fun _ => rfl)).squeeze S64x2048 squeezes_S1x1x64x2048_S64x2048

instance (j : Fin 4) : ClosedOff (winOff j) := ⟨winOff j, rfl⟩
instance (l k : Fin 3) : ClosedOff (rcvOff l k) := ⟨rcvOff l k, rfl⟩

theorem wslot_of {off : Fin 3 → Nat} {j : Fin 4} (e : off = winOff j) (hh hs) :
    (winM.slice (Rect.unit (s := S4x512x4096) off S1x512x4096.size hh) hs).squeeze S512x4096 squeezes_S1x512x4096_S512x4096 = wslot j :=
  congrArg (fun M : Memref sig .tc .vmem S1x512x4096 .f32 => M.squeeze S512x4096 squeezes_S1x512x4096_S512x4096) (Memref.slice_unit_congr _ e _ _ _ _)
theorem oslot_of {off : Fin 3 → Nat} {j : Fin 4} (e : off = winOff j) (hh hs) :
    (woutM.slice (Rect.unit (s := S4x512x2048) off S1x512x2048.size hh) hs).squeeze S512x2048 squeezes_S1x512x2048_S512x2048 = oslot j :=
  congrArg (fun M : Memref sig .tc .vmem S1x512x2048 .f32 => M.squeeze S512x2048 squeezes_S1x512x2048_S512x2048) (Memref.slice_unit_congr _ e _ _ _ _)
theorem rslot_of {off : Fin 4 → Nat} {l k : Fin 3} (e : off = rcvOff l k) (hh hs) :
    (rcvM.slice (Rect.unit (s := S3x3x64x2048) off S1x1x64x2048.size hh) hs).squeeze S64x2048 squeezes_S1x1x64x2048_S64x2048 = rslot l k :=
  congrArg (fun M : Memref sig .tc .vmem S1x1x64x2048 .bf16 => M.squeeze S64x2048 squeezes_S1x1x64x2048_S64x2048) (Memref.slice_unit_congr _ e _ _ _ _)

@[sl_canon] theorem wslot0 (hh hs) : (winM.slice (Rect.unit (s := S4x512x4096) ![0, 0, 0] S1x512x4096.size hh) hs).squeeze S512x4096 squeezes_S1x512x4096_S512x4096 = wslot 0 := wslot_of (by decide) _ _
@[sl_canon] theorem wslot1 (hh hs) : (winM.slice (Rect.unit (s := S4x512x4096) ![1, 0, 0] S1x512x4096.size hh) hs).squeeze S512x4096 squeezes_S1x512x4096_S512x4096 = wslot 1 := wslot_of (by decide) _ _
@[sl_canon] theorem wslot2 (hh hs) : (winM.slice (Rect.unit (s := S4x512x4096) ![2, 0, 0] S1x512x4096.size hh) hs).squeeze S512x4096 squeezes_S1x512x4096_S512x4096 = wslot 2 := wslot_of (by decide) _ _
@[sl_canon] theorem wslot3 (hh hs) : (winM.slice (Rect.unit (s := S4x512x4096) ![3, 0, 0] S1x512x4096.size hh) hs).squeeze S512x4096 squeezes_S1x512x4096_S512x4096 = wslot 3 := wslot_of (by decide) _ _
@[sl_canon] theorem oslot0 (hh hs) : (woutM.slice (Rect.unit (s := S4x512x2048) ![0, 0, 0] S1x512x2048.size hh) hs).squeeze S512x2048 squeezes_S1x512x2048_S512x2048 = oslot 0 := oslot_of (by decide) _ _
@[sl_canon] theorem oslot1 (hh hs) : (woutM.slice (Rect.unit (s := S4x512x2048) ![1, 0, 0] S1x512x2048.size hh) hs).squeeze S512x2048 squeezes_S1x512x2048_S512x2048 = oslot 1 := oslot_of (by decide) _ _
@[sl_canon] theorem oslot2 (hh hs) : (woutM.slice (Rect.unit (s := S4x512x2048) ![2, 0, 0] S1x512x2048.size hh) hs).squeeze S512x2048 squeezes_S1x512x2048_S512x2048 = oslot 2 := oslot_of (by decide) _ _
@[sl_canon] theorem oslot3 (hh hs) : (woutM.slice (Rect.unit (s := S4x512x2048) ![3, 0, 0] S1x512x2048.size hh) hs).squeeze S512x2048 squeezes_S1x512x2048_S512x2048 = oslot 3 := oslot_of (by decide) _ _
@[sl_canon] theorem rslot00 (hh hs) : (rcvM.slice (Rect.unit (s := S3x3x64x2048) ![0, 0, 0, 0] S1x1x64x2048.size hh) hs).squeeze S64x2048 squeezes_S1x1x64x2048_S64x2048 = rslot 0 0 := rslot_of (by decide) _ _
@[sl_canon] theorem rslot01 (hh hs) : (rcvM.slice (Rect.unit (s := S3x3x64x2048) ![0, 1, 0, 0] S1x1x64x2048.size hh) hs).squeeze S64x2048 squeezes_S1x1x64x2048_S64x2048 = rslot 0 1 := rslot_of (by decide) _ _
@[sl_canon] theorem rslot02 (hh hs) : (rcvM.slice (Rect.unit (s := S3x3x64x2048) ![0, 2, 0, 0] S1x1x64x2048.size hh) hs).squeeze S64x2048 squeezes_S1x1x64x2048_S64x2048 = rslot 0 2 := rslot_of (by decide) _ _
@[sl_canon] theorem rslot10 (hh hs) : (rcvM.slice (Rect.unit (s := S3x3x64x2048) ![1, 0, 0, 0] S1x1x64x2048.size hh) hs).squeeze S64x2048 squeezes_S1x1x64x2048_S64x2048 = rslot 1 0 := rslot_of (by decide) _ _
@[sl_canon] theorem rslot11 (hh hs) : (rcvM.slice (Rect.unit (s := S3x3x64x2048) ![1, 1, 0, 0] S1x1x64x2048.size hh) hs).squeeze S64x2048 squeezes_S1x1x64x2048_S64x2048 = rslot 1 1 := rslot_of (by decide) _ _
@[sl_canon] theorem rslot12 (hh hs) : (rcvM.slice (Rect.unit (s := S3x3x64x2048) ![1, 2, 0, 0] S1x1x64x2048.size hh) hs).squeeze S64x2048 squeezes_S1x1x64x2048_S64x2048 = rslot 1 2 := rslot_of (by decide) _ _
@[sl_canon] theorem rslot20 (hh hs) : (rcvM.slice (Rect.unit (s := S3x3x64x2048) ![2, 0, 0, 0] S1x1x64x2048.size hh) hs).squeeze S64x2048 squeezes_S1x1x64x2048_S64x2048 = rslot 2 0 := rslot_of (by decide) _ _
@[sl_canon] theorem rslot21 (hh hs) : (rcvM.slice (Rect.unit (s := S3x3x64x2048) ![2, 1, 0, 0] S1x1x64x2048.size hh) hs).squeeze S64x2048 squeezes_S1x1x64x2048_S64x2048 = rslot 2 1 := rslot_of (by decide) _ _
@[sl_canon] theorem rslot22 (hh hs) : (rcvM.slice (Rect.unit (s := S3x3x64x2048) ![2, 2, 0, 0] S1x1x64x2048.size hh) hs).squeeze S64x2048 squeezes_S1x1x64x2048_S64x2048 = rslot 2 2 := rslot_of (by decide) _ _

/-! ## The cells -/

theorem semOff4 (j : Fin 4) : ∀ a, (![j.val] : Fin 1 → Nat) a + S1.size a ≤ S4.size a := by revert j; decide
theorem semOff3 (k : Fin 3) : ∀ a, (![k.val] : Fin 1 → Nat) a + S1.size a ≤ S3.size a := by revert k; decide
theorem semOff33 (l k : Fin 3) : ∀ a, (![l.val, k.val] : Fin 2 → Nat) a + S1x1.size a ≤ S3x3.size a := by revert l k; decide

/-- The semaphores of the two rings of weights, of the sends, of the landing slots. -/
def wsm (j : Fin 4) : DmaSems sig S_ := (cc0_scratch4.slice (Rect.unit (s := S4) ![j.val] S1.size (semOff4 j))).squeeze S_ squeezes_S1_S_
def osm (j : Fin 4) : DmaSems sig S_ := (cc0_scratch5.slice (Rect.unit (s := S4) ![j.val] S1.size (semOff4 j))).squeeze S_ squeezes_S1_S_
def ssm (k : Fin 3) : DmaSems sig S_ := (cc0_scratch6.slice (Rect.unit (s := S3) ![k.val] S1.size (semOff3 k))).squeeze S_ squeezes_S1_S_
def rsm (l k : Fin 3) : DmaSems sig S_ := (cc0_scratch7.slice (Rect.unit (s := S3x3) ![l.val, k.val] S1x1.size (semOff33 l k))).squeeze S_ squeezes_S1x1_S_

theorem wsm_of {off : Fin 1 → Nat} {j : Fin 4} (e : off = ![j.val]) (hh) :
    (cc0_scratch4.slice (Rect.unit (s := S4) off S1.size hh)).squeeze S_ squeezes_S1_S_ = wsm j :=
  congrArg (fun A : DmaSems sig S1 => A.squeeze S_ squeezes_S1_S_) (SemArray.slice_unit_congr _ e _ _)
theorem osm_of {off : Fin 1 → Nat} {j : Fin 4} (e : off = ![j.val]) (hh) :
    (cc0_scratch5.slice (Rect.unit (s := S4) off S1.size hh)).squeeze S_ squeezes_S1_S_ = osm j :=
  congrArg (fun A : DmaSems sig S1 => A.squeeze S_ squeezes_S1_S_) (SemArray.slice_unit_congr _ e _ _)
theorem ssm_of {off : Fin 1 → Nat} {k : Fin 3} (e : off = ![k.val]) (hh) :
    (cc0_scratch6.slice (Rect.unit (s := S3) off S1.size hh)).squeeze S_ squeezes_S1_S_ = ssm k :=
  congrArg (fun A : DmaSems sig S1 => A.squeeze S_ squeezes_S1_S_) (SemArray.slice_unit_congr _ e _ _)
theorem rsm_of {off : Fin 2 → Nat} {l k : Fin 3} (e : off = ![l.val, k.val]) (hh) :
    (cc0_scratch7.slice (Rect.unit (s := S3x3) off S1x1.size hh)).squeeze S_ squeezes_S1x1_S_ = rsm l k :=
  congrArg (fun A : DmaSems sig S1x1 => A.squeeze S_ squeezes_S1x1_S_) (SemArray.slice_unit_congr _ e _ _)

@[sl_canon] theorem wsm0 (hh) : (cc0_scratch4.slice (Rect.unit (s := S4) ![0] S1.size hh)).squeeze S_ squeezes_S1_S_ = wsm 0 := wsm_of (by decide) _
@[sl_canon] theorem wsm1 (hh) : (cc0_scratch4.slice (Rect.unit (s := S4) ![1] S1.size hh)).squeeze S_ squeezes_S1_S_ = wsm 1 := wsm_of (by decide) _
@[sl_canon] theorem wsm2 (hh) : (cc0_scratch4.slice (Rect.unit (s := S4) ![2] S1.size hh)).squeeze S_ squeezes_S1_S_ = wsm 2 := wsm_of (by decide) _
@[sl_canon] theorem wsm3 (hh) : (cc0_scratch4.slice (Rect.unit (s := S4) ![3] S1.size hh)).squeeze S_ squeezes_S1_S_ = wsm 3 := wsm_of (by decide) _
@[sl_canon] theorem osm0 (hh) : (cc0_scratch5.slice (Rect.unit (s := S4) ![0] S1.size hh)).squeeze S_ squeezes_S1_S_ = osm 0 := osm_of (by decide) _
@[sl_canon] theorem osm1 (hh) : (cc0_scratch5.slice (Rect.unit (s := S4) ![1] S1.size hh)).squeeze S_ squeezes_S1_S_ = osm 1 := osm_of (by decide) _
@[sl_canon] theorem osm2 (hh) : (cc0_scratch5.slice (Rect.unit (s := S4) ![2] S1.size hh)).squeeze S_ squeezes_S1_S_ = osm 2 := osm_of (by decide) _
@[sl_canon] theorem osm3 (hh) : (cc0_scratch5.slice (Rect.unit (s := S4) ![3] S1.size hh)).squeeze S_ squeezes_S1_S_ = osm 3 := osm_of (by decide) _
@[sl_canon] theorem ssm0 (hh) : (cc0_scratch6.slice (Rect.unit (s := S3) ![0] S1.size hh)).squeeze S_ squeezes_S1_S_ = ssm 0 := ssm_of (by decide) _
@[sl_canon] theorem ssm1 (hh) : (cc0_scratch6.slice (Rect.unit (s := S3) ![1] S1.size hh)).squeeze S_ squeezes_S1_S_ = ssm 1 := ssm_of (by decide) _
@[sl_canon] theorem ssm2 (hh) : (cc0_scratch6.slice (Rect.unit (s := S3) ![2] S1.size hh)).squeeze S_ squeezes_S1_S_ = ssm 2 := ssm_of (by decide) _
@[sl_canon] theorem rsm00 (hh) : (cc0_scratch7.slice (Rect.unit (s := S3x3) ![0, 0] S1x1.size hh)).squeeze S_ squeezes_S1x1_S_ = rsm 0 0 := rsm_of (by decide) _
@[sl_canon] theorem rsm01 (hh) : (cc0_scratch7.slice (Rect.unit (s := S3x3) ![0, 1] S1x1.size hh)).squeeze S_ squeezes_S1x1_S_ = rsm 0 1 := rsm_of (by decide) _
@[sl_canon] theorem rsm02 (hh) : (cc0_scratch7.slice (Rect.unit (s := S3x3) ![0, 2] S1x1.size hh)).squeeze S_ squeezes_S1x1_S_ = rsm 0 2 := rsm_of (by decide) _
@[sl_canon] theorem rsm10 (hh) : (cc0_scratch7.slice (Rect.unit (s := S3x3) ![1, 0] S1x1.size hh)).squeeze S_ squeezes_S1x1_S_ = rsm 1 0 := rsm_of (by decide) _
@[sl_canon] theorem rsm11 (hh) : (cc0_scratch7.slice (Rect.unit (s := S3x3) ![1, 1] S1x1.size hh)).squeeze S_ squeezes_S1x1_S_ = rsm 1 1 := rsm_of (by decide) _
@[sl_canon] theorem rsm12 (hh) : (cc0_scratch7.slice (Rect.unit (s := S3x3) ![1, 2] S1x1.size hh)).squeeze S_ squeezes_S1x1_S_ = rsm 1 2 := rsm_of (by decide) _
@[sl_canon] theorem rsm20 (hh) : (cc0_scratch7.slice (Rect.unit (s := S3x3) ![2, 0] S1x1.size hh)).squeeze S_ squeezes_S1x1_S_ = rsm 2 0 := rsm_of (by decide) _
@[sl_canon] theorem rsm21 (hh) : (cc0_scratch7.slice (Rect.unit (s := S3x3) ![2, 1] S1x1.size hh)).squeeze S_ squeezes_S1x1_S_ = rsm 2 1 := rsm_of (by decide) _
@[sl_canon] theorem rsm22 (hh) : (cc0_scratch7.slice (Rect.unit (s := S3x3) ![2, 2] S1x1.size hh)).squeeze S_ squeezes_S1x1_S_ = rsm 2 2 := rsm_of (by decide) _

/-- The runtime's barrier semaphore. -/
abbrev barS : Sem sig := (SemArray.scalar (sig.barrier 0 rfl) : Sems sig S_).sem

abbrev barCell (c : Dev nD) : GSem nD τ sig := ((c : Thread nD τ), .reg barS)
abbrev sendCell (k : Fin 3) (c : Dev nD) : GSem nD τ sig := ((c : Thread nD τ), .dma (ssm k).sem)
abbrev recvCell (l k : Fin 3) (c : Dev nD) : GSem nD τ sig := ((c : Thread nD τ), .dma (rsm l k).sem)

/-- A cell between devices: the barrier, a send cell, a landing cell. -/
inductive Kind where
  | bar
  | send (k : Fin 3)
  | recv (l k : Fin 3)
  deriving DecidableEq

/-- Which cell between devices a semaphore is, if any: the pool's numbers 10–12 are the sends, 13–21 the landings. -/
def kindOf : SemLoc sig → Option Kind
  | .reg _ => some .bar
  | .dma q => if q.val < 10 then none else if q.val < 13 then some (.send ⟨(q.val - 10) % 3, Nat.mod_lt _ (by decide)⟩)
      else some (.recv ⟨(q.val - 13) / 3 % 3, Nat.mod_lt _ (by decide)⟩ ⟨(q.val - 13) % 3, Nat.mod_lt _ (by decide)⟩)

theorem kind_bar : kindOf (.reg barS) = some .bar := rfl
theorem kind_send (k : Fin 3) : kindOf (.dma (ssm k).sem) = some (.send k) := by revert k; decide
theorem kind_recv (l k : Fin 3) : kindOf (.dma (rsm l k).sem) = some (.recv l k) := by revert l k; decide
theorem kind_wsm (j : Fin 4) : kindOf (.dma (wsm j).sem) = none := by revert j; decide
theorem kind_osm (j : Fin 4) : kindOf (.dma (osm j).sem) = none := by revert j; decide

/-! ## The payloads

`S l c` is the block device `c` sends in layer `l`. -/

/-- One copy moves this many units on each of its two cells. -/
abbrev N : ℕ := 8192

/-- The three copies of a layer read the send buffer each at a share of its own. -/
def shr : Fin 3 → PosShare TreeShare
  | 0 => Transfers.shareTokN fullShare 0
  | 1 => Transfers.shareTokN fullShare 1
  | 2 => Transfers.shareDrop fullShare 2

/-- The landing slot `(l, k)` of `c`, at contents `f`. -/
abbrev slotAt (l k : Fin 3) (c : Dev nD) (f : Buf (Elt F) ((rslot l k).view.loc (c : Thread nD τ))) : sProp 𝕄 :=
  (rslot l k).view.loc (c : Thread nD τ) ↦[(rslot l k).view.set]{fullShare} f
/-- The landing slot `(l, k)` of `c`, at some contents. -/
def slotEx (l k : Fin 3) (c : Dev nD) : sProp 𝕄 := iprop(∃ f, slotAt l k c f)
instance (l k : Fin 3) (c : Dev nD) : BI.Storable (upEmb : UEmb _ 𝕄) (slotEx (F := F) l k c) := by unfold slotEx; infer_instance
/-- Share `k` of the send buffer of `c`, at contents `f`. -/
abbrev sndAt (k : Fin 3) (c : Dev nD) (f : Buf (Elt F) (sndM.view.loc (c : Thread nD τ))) : sProp 𝕄 :=
  sndM.view.loc (c : Thread nD τ) ↦[sndM.view.set]{shr k} f

variable (S : ℕ → Dev nD → (cc0_scratch2 : Ref sig .tc).ty.Contents (Elt F))

/-- What a landing slot of `c` holds once device `s` has sent its block of layer `l` there: that block, over whatever was there. -/
abbrev landed (l k : Fin 3) (s c : Dev nD) (fd : Buf (Elt F) ((rslot l k).view.loc (c : Thread nD τ))) :
    Buf (Elt F) ((rslot l k).view.loc (c : Thread nD τ)) :=
  (rslot l k).view.write (Elt F) fd (sndM.view.read (Elt F) (S l.val s)) Finset.univ

/-- What the barrier's unit of the device `s` hands over: its landing slots `(l, k)`. -/
def barPay (k : Fin 3) (s : Dev nD) : sProp 𝕄 := iprop(slotEx 0 k s ∗ slotEx 1 k s ∗ slotEx 2 k s)
def sendPay (k : Fin 3) (r : ℕ) (c : Dev nD) : sProp 𝕄 := sndAt k c (S r c)
def recvPay (l k : Fin 3) (c : Dev nD) : sProp 𝕄 := iprop(∃ fd, slotAt l k c (landed S l k (peer (3 - k.val) c) c fd))

instance (k : Fin 3) (s : Dev nD) : BI.Storable (upEmb : UEmb _ 𝕄) (barPay (F := F) k s) := by unfold barPay; infer_instance
instance (k : Fin 3) (r : ℕ) (s : Dev nD) : BI.Storable (upEmb : UEmb _ 𝕄) (sendPay S k r s) := by unfold sendPay; infer_instance
instance (l k : Fin 3) (s : Dev nD) : BI.Storable (upEmb : UEmb _ 𝕄) (recvPay S l k s) := by unfold recvPay; infer_instance

/-! ## The schedule -/

/-- The duties of one round of one kind of cell. -/
def dutiesOf : Option Kind → ℕ → Finset (Fin 3)
  | some .bar, r => if r = 0 then {0, 1, 2} else ∅
  | some (.send _), r => if r < 3 then {0} else ∅
  | some (.recv _ _), r => if r = 0 then {0} else ∅
  | none, _ => ∅
/-- The units of one duty. -/
def amountOf : Option Kind → ℕ
  | some .bar => 1
  | _ => N
/-- The payload of one duty at a cell of `c`. -/
def payOf (c : Dev nD) : Option Kind → ℕ → Fin 3 → sProp 𝕄
  | some .bar, _, d => barPay d (peer (d.val + 1) c)
  | some (.send k), r, _ => sendPay S k r c
  | some (.recv l k), _, _ => recvPay S l k c
  | none, _, _ => iprop(emp)

instance (c : Dev nD) (k : Option Kind) (r : ℕ) (d : Fin 3) : BI.Storable (upEmb : UEmb _ 𝕄) (payOf S c k r d) := by
  unfold payOf; split <;> infer_instance

theorem amountOf_pos (k : Option Kind) : 0 < amountOf k := by unfold amountOf; split <;> decide

/-- The schedule of the cells between devices. -/
def sched : Rounds.Schedule (GSem nD τ sig) (Fin 3) 𝕄 where
  duties g r := if g.1.2 = .tc then dutiesOf (kindOf g.2) r else ∅
  unitless _ := False
  amount g _ _ := amountOf (kindOf g.2)
  payload g r d := payOf S g.1.1 (kindOf g.2) r d
  amount_pos g _ _ _ := amountOf_pos _

instance sched_storable (g : GSem nD τ sig) (r : ℕ) (d : Fin 3) : BI.Storable (upEmb : UEmb _ 𝕄) ((sched S).payload g r d) := by
  unfold sched; infer_instance

section Tables
variable (c : Dev nD) (l k : Fin 3)

theorem duties_bar : (sched S).duties (barCell c) 0 = {0, 1, 2} := by
  simp only [sched, kind_bar, dutiesOf, if_true]
theorem duties_send (r : ℕ) (hr : r < 3) : (sched S).duties (sendCell k c) r = {0} := by
  simp only [sched, kind_send, dutiesOf, if_pos hr, if_true]
theorem duties_recv : (sched S).duties (recvCell l k c) 0 = {0} := by
  simp only [sched, kind_recv, dutiesOf, if_true]
theorem duties_bar_later (r : ℕ) (hr : 1 ≤ r) : (sched S).duties (barCell c) r = ∅ := by
  simp only [sched, kind_bar, dutiesOf, if_neg (show ¬ r = 0 by omega), if_true]
theorem duties_send_later (r : ℕ) (hr : 3 ≤ r) : (sched S).duties (sendCell k c) r = ∅ := by
  simp only [sched, kind_send, dutiesOf, if_neg (show ¬ r < 3 by omega), if_true]
theorem duties_recv_later (r : ℕ) (hr : 1 ≤ r) : (sched S).duties (recvCell l k c) r = ∅ := by
  simp only [sched, kind_recv, dutiesOf, if_neg (show ¬ r = 0 by omega), if_true]

theorem amount_bar (r : ℕ) (d : Fin 3) : (sched S).amount (barCell c) r d = 1 := rfl
theorem amount_send (r : ℕ) (d : Fin 3) : (sched S).amount (sendCell k c) r d = N := by simp only [sched, kind_send, amountOf]
theorem amount_recv (r : ℕ) (d : Fin 3) : (sched S).amount (recvCell l k c) r d = N := by simp only [sched, kind_recv, amountOf]

theorem payload_bar (r : ℕ) (d : Fin 3) : (sched S).payload (barCell c) r d = barPay d (peer (d.val + 1) c) := rfl
theorem payload_send (r : ℕ) (d : Fin 3) : (sched S).payload (sendCell k c) r d = sendPay S k r c := by simp only [sched, kind_send, payOf]
theorem payload_recv (r : ℕ) (d : Fin 3) : (sched S).payload (recvCell l k c) r d = recvPay S l k c := by simp only [sched, kind_recv, payOf]

theorem expect_bar : (sched S).expect (barCell c) 0 = 3 := by
  unfold Schedule.expect Schedule.amountOf
  rw [duties_bar, Finset.sum_congr rfl fun d _ => amount_bar S c 0 d]; rfl
theorem expect_send (r : ℕ) (hr : r < 3) : (sched S).expect (sendCell k c) r = N := by
  unfold Schedule.expect Schedule.amountOf
  rw [duties_send S c k r hr, Finset.sum_singleton, amount_send]
theorem expect_recv : (sched S).expect (recvCell l k c) 0 = N := by
  unfold Schedule.expect Schedule.amountOf
  rw [duties_recv, Finset.sum_singleton, amount_recv]

end Tables

/-! ## Debts and levels -/

/-- What a device owes at launch: nine copies, those of the last layer first, and three units of the barriers. -/
def O₀ (c : Dev nD) : CellTallies nD τ sig Unit :=
  tallyAt (recvCell 2 2 (peer 3 c)) () N + tallyAt (recvCell 2 1 (peer 2 c)) () N + tallyAt (recvCell 2 0 (peer 1 c)) () N + tallyAt (recvCell 1 2 (peer 3 c)) () N + tallyAt (recvCell 1 1 (peer 2 c)) () N + tallyAt (recvCell 1 0 (peer 1 c)) () N + tallyAt (recvCell 0 2 (peer 3 c)) () N + tallyAt (recvCell 0 1 (peer 2 c)) () N + tallyAt (recvCell 0 0 (peer 1 c)) () N
    + tallyAt (barCell (peer 3 c)) () 1 + tallyAt (barCell (peer 2 c)) () 1 + tallyAt (barCell (peer 1 c)) () 1

def L (g : GSem nD τ sig) : Finset Unit := if g.1.2 = .tc then {()} else ∅
/-- The order of the waits: the device's own cells, the barrier, the landings layer by layer. -/
def lvOf : Option Kind → ℕ
  | some .bar => 1
  | some (.recv l _) => 2 + l.val
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (l k : Fin 3) (c : Dev nD) (u : Unit) : lv (recvCell l k c) u = 2 + l.val := by simp only [lv, kind_recv, lvOf]
theorem lv_send (k : Fin 3) (c : Dev nD) (u : Unit) : lv (sendCell k c) u = 0 := by simp only [lv, kind_send, lvOf]

/-- Every cell owed to lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n a : ℕ} (c : Dev nD) (sm : SemLoc sig) (h : n < lv ((c : Thread nD τ), sm) ()) :
    Above n (tallyAt ((c : Thread nD τ), sm) () a) := by
  intro g u hg
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)
theorem above_due {n : ℕ} (l k : Fin 3) (c : Dev nD) (h : n < 2 + l.val) : Above n (tallyAt (recvCell l k c) () N) :=
  above_tally _ _ (by rw [lv_recv]; exact h)
theorem above_bar {n : ℕ} (c : Dev nD) (h : n < 1) : Above n (tallyAt (barCell c) () 1) := above_tally _ _ h
theorem Above.le {n n' : ℕ} {O : CellTallies nD τ sig Unit} (h : Above n O) (hn : n' ≤ n) : Above n' O :=
  fun g u hg => ⟨(h g u hg).1, Nat.lt_of_le_of_lt hn (h g u hg).2⟩

/-- A wait at level `n` is allowed while every cell owed to lies above `n`. -/
theorem mayWait_of (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.Run

end
-- ==== Proof.RunIdealStart.lean ====
module

public import proofs.«01_k».proof.Proof.RunIdealProtocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices around the ring -/

theorem peer_1_3 (c : Dev nD) : peer 3 (peer 1 c) = c := by revert c; decide
theorem peer_2_2 (c : Dev nD) : peer 2 (peer 2 c) = c := by revert c; decide
theorem peer_3_1 (c : Dev nD) : peer 1 (peer 3 c) = c := by revert c; decide

variable (S : ℕ → Dev nD → (cc0_scratch2 : Ref sig .tc).ty.Contents (Elt F))

section Tables
variable (c : Dev nD)

theorem tab_bar_to1 (r : ℕ) : (sched S).payload (barCell (peer 1 c)) r 2 = iprop(slotEx 0 2 c ∗ slotEx 1 2 c ∗ slotEx 2 2 c) := by
  rw [payload_bar]; show barPay 2 (peer 3 (peer 1 c)) = _; rw [peer_1_3]; rfl
theorem tab_bar_to2 (r : ℕ) : (sched S).payload (barCell (peer 2 c)) r 1 = iprop(slotEx 0 1 c ∗ slotEx 1 1 c ∗ slotEx 2 1 c) := by
  rw [payload_bar]; show barPay 1 (peer 2 (peer 2 c)) = _; rw [peer_2_2]; rfl
theorem tab_bar_to3 (r : ℕ) : (sched S).payload (barCell (peer 3 c)) r 0 = iprop(slotEx 0 0 c ∗ slotEx 1 0 c ∗ slotEx 2 0 c) := by
  rw [payload_bar]; show barPay 0 (peer 1 (peer 3 c)) = _; rw [peer_3_1]; rfl
theorem tab_bar_from0 (r : ℕ) : (sched S).payload (barCell c) r 0 = iprop(slotEx 0 0 (peer 1 c) ∗ slotEx 1 0 (peer 1 c) ∗ slotEx 2 0 (peer 1 c)) := rfl
theorem tab_bar_from1 (r : ℕ) : (sched S).payload (barCell c) r 1 = iprop(slotEx 0 1 (peer 2 c) ∗ slotEx 1 1 (peer 2 c) ∗ slotEx 2 1 (peer 2 c)) := rfl
theorem tab_bar_from2 (r : ℕ) : (sched S).payload (barCell c) r 2 = iprop(slotEx 0 2 (peer 3 c) ∗ slotEx 1 2 (peer 3 c) ∗ slotEx 2 2 (peer 3 c)) := rfl
theorem tab_to0 (l : Fin 3) (r : ℕ) (d : Fin 3) : (sched S).payload (recvCell l 0 (peer 1 c)) r d =
    iprop(∃ fd, (rslot l 0).view.loc ((peer 1 c : Dev nD) : Thread nD τ) ↦[(rslot l 0).view.set]{fullShare}
      (rslot l 0).view.write (Elt F) fd (sndM.view.read (Elt F) (S l.val (c))) Finset.univ) := by
  rw [payload_recv]; unfold recvPay; show iprop(∃ fd, slotAt l 0 (peer 1 c) (landed S l 0 (peer 3 (peer 1 c)) (peer 1 c) fd)) = _; rw [peer_1_3]
theorem tab_from0 (l : Fin 3) (r : ℕ) (d : Fin 3) : (sched S).payload (recvCell l 0 c) r d =
    iprop(∃ fd, (rslot l 0).view.loc ((c : Dev nD) : Thread nD τ) ↦[(rslot l 0).view.set]{fullShare}
      (rslot l 0).view.write (Elt F) fd (sndM.view.read (Elt F) (S l.val (peer 3 c))) Finset.univ) := by
  rw [payload_recv]; rfl
theorem tab_to1 (l : Fin 3) (r : ℕ) (d : Fin 3) : (sched S).payload (recvCell l 1 (peer 2 c)) r d =
    iprop(∃ fd, (rslot l 1).view.loc ((peer 2 c : Dev nD) : Thread nD τ) ↦[(rslot l 1).view.set]{fullShare}
      (rslot l 1).view.write (Elt F) fd (sndM.view.read (Elt F) (S l.val (c))) Finset.univ) := by
  rw [payload_recv]; unfold recvPay; show iprop(∃ fd, slotAt l 1 (peer 2 c) (landed S l 1 (peer 2 (peer 2 c)) (peer 2 c) fd)) = _; rw [peer_2_2]
theorem tab_from1 (l : Fin 3) (r : ℕ) (d : Fin 3) : (sched S).payload (recvCell l 1 c) r d =
    iprop(∃ fd, (rslot l 1).view.loc ((c : Dev nD) : Thread nD τ) ↦[(rslot l 1).view.set]{fullShare}
      (rslot l 1).view.write (Elt F) fd (sndM.view.read (Elt F) (S l.val (peer 2 c))) Finset.univ) := by
  rw [payload_recv]; rfl
theorem tab_to2 (l : Fin 3) (r : ℕ) (d : Fin 3) : (sched S).payload (recvCell l 2 (peer 3 c)) r d =
    iprop(∃ fd, (rslot l 2).view.loc ((peer 3 c : Dev nD) : Thread nD τ) ↦[(rslot l 2).view.set]{fullShare}
      (rslot l 2).view.write (Elt F) fd (sndM.view.read (Elt F) (S l.val (c))) Finset.univ) := by
  rw [payload_recv]; unfold recvPay; show iprop(∃ fd, slotAt l 2 (peer 3 c) (landed S l 2 (peer 1 (peer 3 c)) (peer 3 c) fd)) = _; rw [peer_3_1]
theorem tab_from2 (l : Fin 3) (r : ℕ) (d : Fin 3) : (sched S).payload (recvCell l 2 c) r d =
    iprop(∃ fd, (rslot l 2).view.loc ((c : Dev nD) : Thread nD τ) ↦[(rslot l 2).view.set]{fullShare}
      (rslot l 2).view.write (Elt F) fd (sndM.view.read (Elt F) (S l.val (peer 1 c))) Finset.univ) := by
  rw [payload_recv]; rfl
theorem tab_send (k : Fin 3) (r : ℕ) (d : Fin 3) : (sched S).payload (sendCell k c) r d = iprop(sndM.view.loc ((c : Dev nD) : Thread nD τ) ↦[sndM.view.set]{shr k} (S r c)) := by rw [payload_send]; rfl
theorem tab_send_duty0 (k : Fin 3) : (sched S).duties (sendCell k c) 0 = {0} := duties_send S c k 0 (by decide)
theorem tab_send_duty1 (k : Fin 3) : (sched S).duties (sendCell k c) 1 = {0} := duties_send S c k 1 (by decide)
theorem tab_send_duty2 (k : Fin 3) : (sched S).duties (sendCell k c) 2 = {0} := duties_send S c k 2 (by decide)
theorem tab_send_exp0 (k : Fin 3) : (sched S).expect (sendCell k c) 0 = N := expect_send S c k 0 (by decide)
theorem tab_send_exp1 (k : Fin 3) : (sched S).expect (sendCell k c) 1 = N := expect_send S c k 1 (by decide)
theorem tab_send_exp2 (k : Fin 3) : (sched S).expect (sendCell k c) 2 = N := expect_send S c k 2 (by decide)

end Tables

/-! ## What the body starts from -/

variable (κ : Dev nD → Kind → ℕ) (c : Dev nD)

/-- The invariant of a cell under its name. -/
abbrev inv (k : Kind) (cell : Dev nD → GSem nD τ sig) (d : Dev nD) : sProp 𝕄 := cellInv ER (sched S) (κ d k) (cell d)

/-- The invariants the body of `c` opens: its own cells, the barriers and the landing cells it pays. -/
def invs : sProp 𝕄 :=
  iprop(inv S κ .bar barCell c
    ∗ inv S κ (.send 0) (sendCell 0) c
    ∗ inv S κ (.send 1) (sendCell 1) c
    ∗ inv S κ (.send 2) (sendCell 2) c
    ∗ inv S κ (.recv 0 0) (recvCell 0 0) c
    ∗ inv S κ (.recv 0 1) (recvCell 0 1) c
    ∗ inv S κ (.recv 0 2) (recvCell 0 2) c
    ∗ inv S κ (.recv 1 0) (recvCell 1 0) c
    ∗ inv S κ (.recv 1 1) (recvCell 1 1) c
    ∗ inv S κ (.recv 1 2) (recvCell 1 2) c
    ∗ inv S κ (.recv 2 0) (recvCell 2 0) c
    ∗ inv S κ (.recv 2 1) (recvCell 2 1) c
    ∗ inv S κ (.recv 2 2) (recvCell 2 2) c
    ∗ inv S κ .bar barCell (peer 1 c)
    ∗ inv S κ .bar barCell (peer 2 c)
    ∗ inv S κ .bar barCell (peer 3 c)
    ∗ inv S κ (.recv 0 0) (recvCell 0 0) (peer 1 c)
    ∗ inv S κ (.recv 0 1) (recvCell 0 1) (peer 2 c)
    ∗ inv S κ (.recv 0 2) (recvCell 0 2) (peer 3 c)
    ∗ inv S κ (.recv 1 0) (recvCell 1 0) (peer 1 c)
    ∗ inv S κ (.recv 1 1) (recvCell 1 1) (peer 2 c)
    ∗ inv S κ (.recv 1 2) (recvCell 1 2) (peer 3 c)
    ∗ inv S κ (.recv 2 0) (recvCell 2 0) (peer 1 c)
    ∗ inv S κ (.recv 2 1) (recvCell 2 1) (peer 2 c)
    ∗ inv S κ (.recv 2 2) (recvCell 2 2) (peer 3 c))

instance : BI.Persistent (invs S κ c) := by unfold invs; infer_instance

/-- The positions of `c` in its own cells. -/
def positions : sProp 𝕄 :=
  iprop(atPos ER (barCell c) 0 ∅ 0
    ∗ atPos ER (sendCell 0 c) 0 ∅ 0
    ∗ atPos ER (sendCell 1 c) 0 ∅ 0
    ∗ atPos ER (sendCell 2 c) 0 ∅ 0
    ∗ atPos ER (recvCell 0 0 c) 0 ∅ 0
    ∗ atPos ER (recvCell 0 1 c) 0 ∅ 0
    ∗ atPos ER (recvCell 0 2 c) 0 ∅ 0
    ∗ atPos ER (recvCell 1 0 c) 0 ∅ 0
    ∗ atPos ER (recvCell 1 1 c) 0 ∅ 0
    ∗ atPos ER (recvCell 1 2 c) 0 ∅ 0
    ∗ atPos ER (recvCell 2 0 c) 0 ∅ 0
    ∗ atPos ER (recvCell 2 1 c) 0 ∅ 0
    ∗ atPos ER (recvCell 2 2 c) 0 ∅ 0)

/-- The rounds the cells `c` pays have reached. -/
def marks : sProp 𝕄 :=
  iprop(reached ER (barCell (peer 1 c)) 0
    ∗ reached ER (barCell (peer 2 c)) 0
    ∗ reached ER (barCell (peer 3 c)) 0
    ∗ reached ER (sendCell 0 c) 0
    ∗ reached ER (sendCell 1 c) 0
    ∗ reached ER (sendCell 2 c) 0
    ∗ reached ER (recvCell 0 0 (peer 1 c)) 0
    ∗ reached ER (recvCell 0 1 (peer 2 c)) 0
    ∗ reached ER (recvCell 0 2 (peer 3 c)) 0
    ∗ reached ER (recvCell 1 0 (peer 1 c)) 0
    ∗ reached ER (recvCell 1 1 (peer 2 c)) 0
    ∗ reached ER (recvCell 1 2 (peer 3 c)) 0
    ∗ reached ER (recvCell 2 0 (peer 1 c)) 0
    ∗ reached ER (recvCell 2 1 (peer 2 c)) 0
    ∗ reached ER (recvCell 2 2 (peer 3 c)) 0)

instance : BI.Persistent (marks (F := F) c) := by unfold marks; infer_instance

/-- The duties `c` pays. -/
def tokens : sProp 𝕄 :=
  iprop(dutyTok ER (barCell (peer 1 c)) 0 2
    ∗ dutyTok ER (barCell (peer 2 c)) 0 1
    ∗ dutyTok ER (barCell (peer 3 c)) 0 0
    ∗ dutyTok ER (sendCell 0 c) 0 0
    ∗ dutyTok ER (sendCell 1 c) 0 0
    ∗ dutyTok ER (sendCell 2 c) 0 0
    ∗ dutyTok ER (sendCell 0 c) 1 0
    ∗ dutyTok ER (sendCell 1 c) 1 0
    ∗ dutyTok ER (sendCell 2 c) 1 0
    ∗ dutyTok ER (sendCell 0 c) 2 0
    ∗ dutyTok ER (sendCell 1 c) 2 0
    ∗ dutyTok ER (sendCell 2 c) 2 0
    ∗ dutyTok ER (recvCell 0 0 (peer 1 c)) 0 0
    ∗ dutyTok ER (recvCell 0 1 (peer 2 c)) 0 0
    ∗ dutyTok ER (recvCell 0 2 (peer 3 c)) 0 0
    ∗ dutyTok ER (recvCell 1 0 (peer 1 c)) 0 0
    ∗ dutyTok ER (recvCell 1 1 (peer 2 c)) 0 0
    ∗ dutyTok ER (recvCell 1 2 (peer 3 c)) 0 0
    ∗ dutyTok ER (recvCell 2 0 (peer 1 c)) 0 0
    ∗ dutyTok ER (recvCell 2 1 (peer 2 c)) 0 0
    ∗ dutyTok ER (recvCell 2 2 (peer 3 c)) 0 0)

/-- The units that will come to the cells of `c`. -/
def credits : sProp 𝕄 :=
  iprop(cred (tallyAt (barCell c) () 3)
    ∗ cred (tallyAt (recvCell 0 0 c) () N)
    ∗ cred (tallyAt (recvCell 0 1 c) () N)
    ∗ cred (tallyAt (recvCell 0 2 c) () N)
    ∗ cred (tallyAt (recvCell 1 0 c) () N)
    ∗ cred (tallyAt (recvCell 1 1 c) () N)
    ∗ cred (tallyAt (recvCell 1 2 c) () N)
    ∗ cred (tallyAt (recvCell 2 0 c) () N)
    ∗ cred (tallyAt (recvCell 2 1 c) () N)
    ∗ cred (tallyAt (recvCell 2 2 c) () N))

/-- The counters of the device's own cells. -/
def counters : sProp 𝕄 :=
  iprop(semVal ((c : Thread nD τ), .dma (wsm 0).sem) 0
    ∗ semVal ((c : Thread nD τ), .dma (wsm 1).sem) 0
    ∗ semVal ((c : Thread nD τ), .dma (wsm 2).sem) 0
    ∗ semVal ((c : Thread nD τ), .dma (wsm 3).sem) 0
    ∗ semVal ((c : Thread nD τ), .dma (osm 0).sem) 0
    ∗ semVal ((c : Thread nD τ), .dma (osm 1).sem) 0
    ∗ semVal ((c : Thread nD τ), .dma (osm 2).sem) 0
    ∗ semVal ((c : Thread nD τ), .dma (osm 3).sem) 0)

/-- The landing slots of `c`. -/
def slots : sProp 𝕄 :=
  iprop(slotEx 0 0 c
    ∗ slotEx 0 1 c
    ∗ slotEx 0 2 c
    ∗ slotEx 1 0 c
    ∗ slotEx 1 1 c
    ∗ slotEx 1 2 c
    ∗ slotEx 2 0 c
    ∗ slotEx 2 1 c
    ∗ slotEx 2 2 c)

/-- The slots of the two rings of weights. -/
def rings : sProp 𝕄 :=
  iprop((∃ f, (wslot 0).view.loc (c : Thread nD τ) ↦[(wslot 0).view.set]{fullShare} f)
    ∗ (∃ f, (wslot 1).view.loc (c : Thread nD τ) ↦[(wslot 1).view.set]{fullShare} f)
    ∗ (∃ f, (wslot 2).view.loc (c : Thread nD τ) ↦[(wslot 2).view.set]{fullShare} f)
    ∗ (∃ f, (wslot 3).view.loc (c : Thread nD τ) ↦[(wslot 3).view.set]{fullShare} f)
    ∗ (∃ f, (oslot 0).view.loc (c : Thread nD τ) ↦[(oslot 0).view.set]{fullShare} f)
    ∗ (∃ f, (oslot 1).view.loc (c : Thread nD τ) ↦[(oslot 1).view.set]{fullShare} f)
    ∗ (∃ f, (oslot 2).view.loc (c : Thread nD τ) ↦[(oslot 2).view.set]{fullShare} f)
    ∗ (∃ f, (oslot 3).view.loc (c : Thread nD τ) ↦[(oslot 3).view.set]{fullShare} f))

variable (A : (b : Ref sig .tc) → Buf (Elt F) ((c : Thread nD τ).loc b))
/-- The weights of `c`. -/
def weights : sProp 𝕄 :=
  iprop(((Memref.whole main_arg1 : Memref sig .tc _ _ _).view.loc (c : Thread nD τ) ↦{fullShare} A main_arg1)
    ∗ ((Memref.whole main_arg2 : Memref sig .tc _ _ _).view.loc (c : Thread nD τ) ↦{fullShare} A main_arg2)
    ∗ ((Memref.whole main_arg3 : Memref sig .tc _ _ _).view.loc (c : Thread nD τ) ↦{fullShare} A main_arg3)
    ∗ ((Memref.whole main_arg4 : Memref sig .tc _ _ _).view.loc (c : Thread nD τ) ↦{fullShare} A main_arg4)
    ∗ ((Memref.whole main_arg5 : Memref sig .tc _ _ _).view.loc (c : Thread nD τ) ↦{fullShare} A main_arg5)
    ∗ ((Memref.whole main_arg6 : Memref sig .tc _ _ _).view.loc (c : Thread nD τ) ↦{fullShare} A main_arg6))

end Cert.KernelIdeal.Run

end
-- ==== Proof.RunIdealContents.lean ====
module

public import proofs.«01_k».proof.Proof.RunIdealStart
public import Idealize.ShloMosaic.Lib.Pipeline.Value
public import Idealize.ShloMosaic.Lib.VecWindow

/-! What the kernel computes, as functions of the arguments of all devices: a layer's partial product on one device, what
it sends to the others, and the next layer's activations. -/

@[expose] public section

noncomputable section

namespace Cert.KernelIdeal.Run

open Cert.KernelIdeal Cert.KernelIdeal.Gen
open Idealize.ShloMosaic Idealize.ShloMosaic.TcCoe

variable {F : FTy → Type} [FloatOps F]

theorem rowIn_inb (kb : Fin 4) : ∀ a, (![512 * kb.val, 0] : Fin 2 → ℕ) a + S512x4096.size a ≤ S2048x4096.size a := by revert kb; decide
theorem rowOut_inb (jb : Fin 8) : ∀ a, (![512 * jb.val, 0] : Fin 2 → ℕ) a + S512x2048.size a ≤ S4096x2048.size a := by revert jb; decide
theorem colIn_inb (kb : Fin 4) : S64x2048.Slices ![0, 512 * kb.val] S64x512 := by revert kb; decide
theorem colOut_inb (jb : Fin 8) : S64x4096.Slices ![0, 512 * jb.val] S64x512 := by revert jb; decide

/-- Block `kb` of 512 rows of the first weights. -/
def rowsIn (w : FVec F S2048x4096 .f32) (kb : Fin 4) : FVec F S512x4096 .f32 :=
  fun i => w ((Rect.unit (s := S2048x4096) ![512 * kb.val, 0] S512x4096.size (rowIn_inb kb)).emb i)
/-- Block `jb` of 512 rows of the second weights. -/
def rowsOut (w : FVec F S4096x2048 .f32) (jb : Fin 8) : FVec F S512x2048 .f32 :=
  fun i => w ((Rect.unit (s := S4096x2048) ![512 * jb.val, 0] S512x2048.size (rowOut_inb jb)).emb i)

/-- One block's summand of the first product. -/
def mulIn (x : FVec F S64x2048 .f32) (kb : Fin 4) (w : FVec F S512x4096 .f32) : FVec F S64x4096 .f32 :=
  matmul dot_S64x512_S512x4096_S64x4096_1_0_0_1_n_n none (extractStridedSlice S64x512 ![0, 512 * kb.val] x (colIn_inb kb)) w
    (constant S64x4096 .f32 0x00000000#32)
/-- One block's summand of the second product. -/
def mulOut (h : FVec F S64x4096 .f32) (jb : Fin 8) (w : FVec F S512x2048 .f32) : FVec F S64x2048 .f32 :=
  matmul dot_S64x512_S512x2048_S64x2048_1_0_0_1_n_n none (extractStridedSlice S64x512 ![0, 512 * jb.val] h (colOut_inb jb)) w
    (constant S64x2048 .f32 0x00000000#32)

/-- The hidden layer from the four blocks of the first weights. -/
def hidOf (x : FVec F S64x2048 .f32) (a0 a1 a2 a3 : FVec F S512x4096 .f32) : FVec F S64x4096 .f32 :=
  maximumf (addf (addf (addf (addf (broadcast S64x4096 (Scalar.ofBits .f32 0x00000000#32)) (mulIn x 0 a0)) (mulIn x 1 a1)) (mulIn x 2 a2)) (mulIn x 3 a3))
    (broadcast S64x4096 (Scalar.ofBits .f32 0x00000000#32))
/-- The partial product from the hidden layer and the eight blocks of the second weights. -/
def prodOf (h : FVec F S64x4096 .f32) (b0 b1 b2 b3 b4 b5 b6 b7 : FVec F S512x2048 .f32) : FVec F S64x2048 .f32 :=
  addf (addf (addf (addf (addf (addf (addf (addf (broadcast S64x2048 (Scalar.ofBits .f32 0x00000000#32)) (mulOut h 0 b0)) (mulOut h 1 b1)) (mulOut h 2 b2))
    (mulOut h 3 b3)) (mulOut h 4 b4)) (mulOut h 5 b5)) (mulOut h 6 b6)) (mulOut h 7 b7)

/-- A device's partial product of one layer. -/
def part (x : FVec F S64x2048 .f32) (w : FVec F S2048x4096 .f32) (w' : FVec F S4096x2048 .f32) : FVec F S64x2048 .f32 :=
  prodOf (hidOf x (rowsIn w 0) (rowsIn w 1) (rowsIn w 2) (rowsIn w 3))
    (rowsOut w' 0) (rowsOut w' 1) (rowsOut w' 2) (rowsOut w' 3) (rowsOut w' 4) (rowsOut w' 5) (rowsOut w' 6) (rowsOut w' 7)

/-- What is sent of a partial product. -/
def sentOf (p : FVec F S64x2048 .f32) : FVec F S64x2048 .bf16 := truncf .bf16 p bitsLt_bf16_f32
/-- What a received block adds to a sum. -/
def addRecv (p : FVec F S64x2048 .f32) (r : FVec F S64x2048 .bf16) : FVec F S64x2048 .f32 := addf p (extf .f32 r bitsLt_bf16_f32)

section Layers
variable (A : (c : Dev nD) → (b : Ref sig .tc) → Buf (Elt F) ((c : Thread nD τ).loc b))
variable (X : Dev nD → FVec F S64x2048 .f32)

/-- The first weights of layer `l` on device `c`. -/
def wIn (l : ℕ) (c : Dev nD) : FVec F S2048x4096 .f32 :=
  match l with
  | 0 => A c main_arg1
  | 1 => A c main_arg3
  | _ => A c main_arg5
/-- The second weights of layer `l` on device `c`. -/
def wOut (l : ℕ) (c : Dev nD) : FVec F S4096x2048 .f32 :=
  match l with
  | 0 => A c main_arg2
  | 1 => A c main_arg4
  | _ => A c main_arg6

/-- The activations of device `c` before layer `l`. -/
def xAt : ℕ → Dev nD → FVec F S64x2048 .f32
  | 0, c => X c
  | l + 1, c =>
    addRecv (addRecv (addRecv (part (xAt l c) (wIn A l c) (wOut A l c))
      (sentOf (part (xAt l (peer 3 c)) (wIn A l (peer 3 c)) (wOut A l (peer 3 c)))))
      (sentOf (part (xAt l (peer 2 c)) (wIn A l (peer 2 c)) (wOut A l (peer 2 c)))))
      (sentOf (part (xAt l (peer 1 c)) (wIn A l (peer 1 c)) (wOut A l (peer 1 c))))
/-- The partial product of device `c` in layer `l`. -/
def pAt (l : ℕ) (c : Dev nD) : FVec F S64x2048 .f32 := part (xAt A X l c) (wIn A l c) (wOut A l c)
/-- What device `c` sends in layer `l`. -/
def sAt (l : ℕ) (c : Dev nD) : (cc0_scratch2 : Ref sig .tc).ty.Contents (Elt F) := sentOf (pAt A X l c)

theorem xAt_succ (l : ℕ) (c : Dev nD) : xAt A X (l + 1) c
    = addRecv (addRecv (addRecv (pAt A X l c) (sAt A X l (peer 3 c))) (sAt A X l (peer 2 c))) (sAt A X l (peer 1 c)) := rfl

end Layers

/-! ## Loads -/

/-- A slot of the first ring, loaded after a copy into it. -/
theorem win_load (j : Fin 4) (hh) (hc) (f) (v : FVec F S512x4096 .f32) (Ls) :
    shapeCast S512x4096 (View.readAt (Elt F) winM.view (Rect.unit (s := S4x512x4096) (winOff j) S1x512x4096.size hh).toLoadRect
      ((wslot j).view.writes (Elt F) f (⟨Rect.whole S512x4096, v⟩ :: Ls))) hc = v := by
  have h := Memref.read_squeeze_slice (Val := Elt F) winM (Rect.unit (s := S4x512x4096) (winOff j) S1x512x4096.size hh) (fun _ => rfl)
    squeezes_S1x512x4096_S512x4096 hc ((wslot j).view.writes (Elt F) f (⟨Rect.whole S512x4096, v⟩ :: Ls))
  refine h.symm.trans ?_
  funext y
  have e := View.read_writes_cons_emb (wslot j).view f (Rect.whole S512x4096) v Ls y
  rwa [Rect.emb_whole_apply] at e
/-- A slot of the second ring, loaded after a copy into it. -/
theorem wout_load (j : Fin 4) (hh) (hc) (f) (v : FVec F S512x2048 .f32) (Ls) :
    shapeCast S512x2048 (View.readAt (Elt F) woutM.view (Rect.unit (s := S4x512x2048) (winOff j) S1x512x2048.size hh).toLoadRect
      ((oslot j).view.writes (Elt F) f (⟨Rect.whole S512x2048, v⟩ :: Ls))) hc = v := by
  have h := Memref.read_squeeze_slice (Val := Elt F) woutM (Rect.unit (s := S4x512x2048) (winOff j) S1x512x2048.size hh) (fun _ => rfl)
    squeezes_S1x512x2048_S512x2048 hc ((oslot j).view.writes (Elt F) f (⟨Rect.whole S512x2048, v⟩ :: Ls))
  refine h.symm.trans ?_
  funext y
  have e := View.read_writes_cons_emb (oslot j).view f (Rect.whole S512x2048) v Ls y
  rwa [Rect.emb_whole_apply] at e
/-- A landing slot, loaded after the copy of `v` has landed in it. -/
theorem rcv_load (l k : Fin 3) (hh) (hc) (f) (v : FVec F S64x2048 .bf16) :
    shapeCast S64x2048 (View.readAt (Elt F) rcvM.view (Rect.unit (s := S3x3x64x2048) (rcvOff l k) S1x1x64x2048.size hh).toLoadRect
      ((rslot l k).view.write (Elt F) f v Finset.univ)) hc = v := by
  have h := Memref.read_squeeze_slice (Val := Elt F) rcvM (Rect.unit (s := S3x3x64x2048) (rcvOff l k) S1x1x64x2048.size hh) (fun _ => rfl)
    squeezes_S1x1x64x2048_S64x2048 hc ((rslot l k).view.write (Elt F) f v Finset.univ)
  exact h.symm.trans (View.read_write_univ (Val := Elt F) (v := (rslot l k).view) f v)
theorem read_snd (g : FVec F S64x2048 .bf16) : sndM.view.read (Elt F) g = g := rfl
theorem read_out (g : FVec F S64x2048 .f32) : oM.view.read (Elt F) g = g := rfl
/-- The send buffer after a store of the whole of it. -/
theorem snd_store (hh) (f) (v : FVec F S64x2048 .bf16) (Ls) :
    sndM.view.writes (Elt F) f (⟨Rect.unit (s := S64x2048) ![0, 0] S64x2048.size hh, v⟩ :: Ls) = v :=
  (read_snd _).symm.trans <| View.read_writes_full (Val := Elt F) sndM.view f hh v Ls
/-- The result's buffer after a store of the whole of it. -/
theorem out_store (hh) (f) (v : FVec F S64x2048 .f32) (Ls) :
    oM.view.writes (Elt F) f (⟨Rect.unit (s := S64x2048) ![0, 0] S64x2048.size hh, v⟩ :: Ls) = v :=
  (read_out _).symm.trans <| View.read_writes_full (Val := Elt F) oM.view f hh v Ls
/-- The staged activations, loaded whole. -/
theorem x_load (hh) (f : FVec F S64x2048 .f32) : View.readAt (Elt F) xM.view (Rect.unit (s := S64x2048) ![0, 0] S64x2048.size hh).toLoadRect f = f :=
  View.readAt_full (Val := Elt F) xM.view f hh

/-- The first product's partial sums, the blocks named by the loads that read them. -/
theorem hidOf_congr {x x' : FVec F S64x2048 .f32} {a0 a1 a2 a3 a0' a1' a2' a3' : FVec F S512x4096 .f32} (hx : x = x')
    (h0 : a0 = a0') (h1 : a1 = a1') (h2 : a2 = a2') (h3 : a3 = a3') : hidOf x a0 a1 a2 a3 = hidOf x' a0' a1' a2' a3' := by
  subst hx h0 h1 h2 h3; rfl

variable (A : (c : Dev nD) → (b : Ref sig .tc) → Buf (Elt F) ((c : Thread nD τ).loc b))
variable (X : Dev nD → FVec F S64x2048 .f32)

/-- A layer's partial product, named by the loads that read the twelve blocks of weights. -/
theorem prod_eq {l : ℕ} {c : Dev nD} {x : FVec F S64x2048 .f32} {a0 a1 a2 a3 : FVec F S512x4096 .f32} {b0 b1 b2 b3 b4 b5 b6 b7 : FVec F S512x2048 .f32}
    (hx : x = xAt A X l c) (ha0 : a0 = rowsIn (wIn A l c) 0) (ha1 : a1 = rowsIn (wIn A l c) 1) (ha2 : a2 = rowsIn (wIn A l c) 2) (ha3 : a3 = rowsIn (wIn A l c) 3)
    (hb0 : b0 = rowsOut (wOut A l c) 0) (hb1 : b1 = rowsOut (wOut A l c) 1) (hb2 : b2 = rowsOut (wOut A l c) 2) (hb3 : b3 = rowsOut (wOut A l c) 3)
    (hb4 : b4 = rowsOut (wOut A l c) 4) (hb5 : b5 = rowsOut (wOut A l c) 5) (hb6 : b6 = rowsOut (wOut A l c) 6) (hb7 : b7 = rowsOut (wOut A l c) 7) :
    prodOf (hidOf x a0 a1 a2 a3) b0 b1 b2 b3 b4 b5 b6 b7 = pAt A X l c := by
  subst hx ha0 ha1 ha2 ha3 hb0 hb1 hb2 hb3 hb4 hb5 hb6 hb7; rfl

/-- The activations of the next layer, named by the loads that read the three blocks received. -/
theorem next_eq {l : ℕ} {c : Dev nD} {p : FVec F S64x2048 .f32} {r0 r1 r2 : FVec F S64x2048 .bf16} (hp : p = pAt A X l c)
    (h0 : r0 = sAt A X l (peer 3 c)) (h1 : r1 = sAt A X l (peer 2 c)) (h2 : r2 = sAt A X l (peer 1 c)) :
    addRecv (addRecv (addRecv p r0) r1) r2 = xAt A X (l + 1) c := by
  subst hp h0 h1 h2; rfl

/-- What is stored to be sent, and the partial product it is taken of: layer 0. -/
theorem pay13_eq (a : FVec F S64x4096 .f32) (b : FVec F S64x2048 .f32) (v : Vec F S1x512x2048 .f32) :
    k0_pay13 a b v = sentOf (k0_pay12 a b v) := shapeCast_self _ _
theorem pay12_eq (l : ℕ) (c : Dev nD) (a : FVec F S64x4096 .f32) (b : FVec F S64x2048 .f32) (v : Vec F S1x512x2048 .f32)
    (h : k0_pay12 a b v = pAt A X l c) : k0_pay12 a b v = pAt A X l c := h
/-- The same of layer 1. -/
theorem pay26_eq (a : FVec F S64x4096 .f32) (b : FVec F S64x2048 .f32) (d : FVec F S64x512 .f32) (v v' : Vec F S1x512x2048 .f32) :
    k0_pay26 a b d v v' = sentOf (k0_pay25 a b d v v') := shapeCast_self _ _
theorem pay25_eq (l : ℕ) (c : Dev nD) (a : FVec F S64x4096 .f32) (b : FVec F S64x2048 .f32) (d : FVec F S64x512 .f32) (v v' : Vec F S1x512x2048 .f32)
    (h : k0_pay25 a b d v v' = pAt A X l c) : k0_pay25 a b d v v' = pAt A X l c := h
/-- The same of layer 2. -/
theorem pay42_eq (a : FVec F S64x4096 .f32) (b d : FVec F S64x2048 .f32) (v v' : Vec F S1x512x2048 .f32) :
    k0_pay42 a b d v v' = sentOf (k0_pay41 a b d v v') := shapeCast_self _ _
theorem pay41_eq (l : ℕ) (c : Dev nD) (a : FVec F S64x4096 .f32) (b d : FVec F S64x2048 .f32) (v v' : Vec F S1x512x2048 .f32)
    (h : k0_pay41 a b d v v' = pAt A X l c) : k0_pay41 a b d v v' = pAt A X l c := h

/-- Layer 2's partial product, its values as they are named between the stops of the program. -/
theorem layer2_eq (x : FVec F S64x2048 .f32) (v0 v1 v2 v3 : Vec F S1x512x4096 .f32) (u0 u1 u2 u3 u4 u5 u6 u7 : Vec F S1x512x2048 .f32) :
    k0_pay41 (k0_pay34 (k0_pay31 x (k0_pay29 x v0) (k0_pay30 x) v1 v2) (k0_pay32 x) (k0_pay33 v3) (constant S64x4096 .f32 0x00000000#32))
      (k0_pay39 (k0_pay34 (k0_pay31 x (k0_pay29 x v0) (k0_pay30 x) v1 v2) (k0_pay32 x) (k0_pay33 v3) (constant S64x4096 .f32 0x00000000#32))
        (k0_pay37 (k0_pay34 (k0_pay31 x (k0_pay29 x v0) (k0_pay30 x) v1 v2) (k0_pay32 x) (k0_pay33 v3) (constant S64x4096 .f32 0x00000000#32))
          (k0_pay35 (k0_pay31 x (k0_pay29 x v0) (k0_pay30 x) v1 v2) (k0_pay32 x) (k0_pay33 v3) (constant S64x4096 .f32 0x00000000#32) u0)
          (k0_pay36 (k0_pay31 x (k0_pay29 x v0) (k0_pay30 x) v1 v2) (k0_pay32 x) (k0_pay33 v3) (constant S64x4096 .f32 0x00000000#32) u1) u2)
        (k0_pay38 (k0_pay34 (k0_pay31 x (k0_pay29 x v0) (k0_pay30 x) v1 v2) (k0_pay32 x) (k0_pay33 v3) (constant S64x4096 .f32 0x00000000#32))) u3 u4)
      (k0_pay40 (k0_pay34 (k0_pay31 x (k0_pay29 x v0) (k0_pay30 x) v1 v2) (k0_pay32 x) (k0_pay33 v3) (constant S64x4096 .f32 0x00000000#32)) u5) u6 u7
    = prodOf (hidOf x (shapeCast S512x4096 v0 shapeCasts_S1x512x4096_S512x4096) (shapeCast S512x4096 v1 shapeCasts_S1x512x4096_S512x4096) (shapeCast S512x4096 v2 shapeCasts_S1x512x4096_S512x4096) (shapeCast S512x4096 v3 shapeCasts_S1x512x4096_S512x4096))
        (shapeCast S512x2048 u0 shapeCasts_S1x512x2048_S512x2048) (shapeCast S512x2048 u1 shapeCasts_S1x512x2048_S512x2048) (shapeCast S512x2048 u2 shapeCasts_S1x512x2048_S512x2048) (shapeCast S512x2048 u3 shapeCasts_S1x512x2048_S512x2048) (shapeCast S512x2048 u4 shapeCasts_S1x512x2048_S512x2048) (shapeCast S512x2048 u5 shapeCasts_S1x512x2048_S512x2048) (shapeCast S512x2048 u6 shapeCasts_S1x512x2048_S512x2048) (shapeCast S512x2048 u7 shapeCasts_S1x512x2048_S512x2048) := rfl

end Cert.KernelIdeal.Run

end
-- ==== Proof.RunIdealBody.lean ====
module

public import proofs.«01_k».proof.Proof.RunIdealContents

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
theorem kind_low : ∀ s : DmaSem sig, s.val < 10 → kindOf (.dma s) = none := by decide
theorem mayWait_low (c : Dev nD) (n : ℕ) (h : n < 22) (O : CellTallies nD τ sig Unit) (hn : n < 10) (hO : Above 0 O) :
    (levAts L lv : sProp 𝕄) ⊢ MayWait (c : Thread nD τ) (.dma (⟨n, h⟩ : DmaSem sig)) () O :=
  mayWait_of c _ O (by rw [show lv ((c : Thread nD τ), .dma (⟨n, h⟩ : DmaSem sig)) () = 0 by simp only [lv, kind_low ⟨n, h⟩ hn, lvOf]]; exact hO)
theorem mayWait_ssm (c : Dev nD) (k : Fin 3) (O : CellTallies nD τ sig Unit) (h : Above 0 O) :
    (levAts L lv : sProp 𝕄) ⊢ MayWait (c : Thread nD τ) (.dma (ssm k).sem) () O :=
  mayWait_of c _ O (by rw [lv_send k c]; exact h)
theorem mayWait_rsm (c : Dev nD) (l k : Fin 3) (O : CellTallies nD τ sig Unit) (h : Above (2 + l.val) O) :
    (levAts L lv : sProp 𝕄) ⊢ MayWait (c : Thread nD τ) (.dma (rsm l k).sem) () O :=
  mayWait_of c _ O (by rw [lv_recv l k c]; exact h)
theorem mayWait_bar (c : Dev nD) (O : CellTallies nD τ sig Unit) (h : Above 1 O) :
    (levAts L lv : sProp 𝕄) ⊢ MayWait (c : Thread nD τ) (.reg barS) () O :=
  mayWait_of c _ O (by rw [lv_bar c]; exact h)

theorem wslot_sub (j : Fin 4) (hh) :
    (winM.access (Rect.unit (s := S4x512x4096) (winOff j) S1x512x4096.size hh) : View sig .tc _ _ _).set ⊆ (wslot j).view.set := by
  unfold wslot; rw [Memref.set_view_squeeze]
theorem oslot_sub (j : Fin 4) (hh) :
    (woutM.access (Rect.unit (s := S4x512x2048) (winOff j) S1x512x2048.size hh) : View sig .tc _ _ _).set ⊆ (oslot j).view.set := by
  unfold oslot; rw [Memref.set_view_squeeze]
theorem rslot_sub (l k : Fin 3) (hh) :
    (rcvM.access (Rect.unit (s := S3x3x64x2048) (rcvOff l k) S1x1x64x2048.size hh) : View sig .tc _ _ _).set ⊆ (rslot l k).view.set := by
  unfold rslot; rw [Memref.set_view_squeeze]

variable (S : ℕ → Dev nD → (cc0_scratch2 : Ref sig .tc).ty.Contents (Elt F))

attribute [local sl_rounds] duties_bar duties_recv amount_bar amount_send amount_recv expect_bar expect_recv
  tab_send_duty0 tab_send_duty1 tab_send_duty2 tab_send_exp0 tab_send_exp1 tab_send_exp2 tab_send
  tab_bar_from0 tab_bar_from1 tab_bar_from2
  tab_from0 tab_from1 tab_from2
attribute [local sl_rounds 2000]  tab_bar_to1 tab_bar_to2 tab_bar_to3
  tab_to0 tab_to1 tab_to2
theorem tc_fst (c : Dev nD) : (Dev.tc c : Thread nD τ).1 = c := rfl
attribute [local irreducible] peer
attribute [local sl_canon] tc_fst dev1_eq dev2_eq dev3_eq dev4_eq dev5_eq dev6_eq dev7_eq dev8_eq dev9_eq dev10_eq dev11_eq dev12_eq

variable (A : (c : Dev nD) → (b : Ref sig .tc) → Buf (Elt F) ((c : Thread nD τ).loc b))
variable (X : Dev nD → FVec F S64x2048 .f32)
variable (κ : Dev nD → Kind → ℕ) (c : Dev nD)

theorem slot_open (l k : Fin 3) (c : Dev nD) : (slotEx l k c : sProp 𝕄) ⊢ iprop(∃ f, (rslot l k).view.loc ((c : Dev nD) : Thread nD τ) ↦[(rslot l k).view.set]{fullShare} f) := .rfl

/-- What the barrier's wait hands over, the three units apart. -/
theorem bar_open (P Q R : sProp 𝕄) : BI.sep P (BI.sep Q R) ⊢ iprop(P ∗ Q ∗ R) := .rfl

theorem snd_set : (sndM.view : View sig .tc _ _ _).set = Finset.univ := (Memref.isWhole_whole cc0_scratch2).set_eq_univ

/-- The send buffer is dealt to a layer's three copies, -/
theorem snd_deal (c : Dev nD) {f g : Buf (Elt F) (sndM.view.loc (c : Thread nD τ))} (h : f = g) :
    (sndM.view.loc (c : Thread nD τ) ↦{fullShare} f : sProp 𝕄) ⊢ iprop((sndM.view.loc ((c : Dev nD) : Thread nD τ) ↦[sndM.view.set]{shr 0} g) ∗ (sndM.view.loc ((c : Dev nD) : Thread nD τ) ↦[sndM.view.set]{shr 1} g) ∗ (sndM.view.loc ((c : Dev nD) : Thread nD τ) ↦[sndM.view.set]{shr 2} g)) := by
  subst h
  rw [snd_set]
  refine (Transfers.pointsTo_toks_range fullShare 2).1.trans ?_
  rw [show Finset.range 2 = {0, 1} from rfl, BI.bigSep_insert (by decide), BI.bigSep_singleton]
  show iprop(_ ∗ _ ∗ _) ⊢ iprop(_ ∗ _ ∗ _)
  iintro ⟨H2, H0, H1⟩
  isplitl [H0]; · iexact H0
  isplitl [H1]; · iexact H1
  iexact H2
/-- The send buffer after a layer's store, in the three shares its copies take. -/
theorem snd_sent (A : (c : Dev nD) → (b : Ref sig .tc) → Buf (Elt F) ((c : Thread nD τ).loc b)) (X : Dev nD → FVec F S64x2048 .f32) (l : ℕ) (c : Dev nD) (hh) (f) (Ls) :
    (sndM.view.loc (c : Thread nD τ) ↦{fullShare} sndM.view.writes (Elt F) f (⟨Rect.unit (s := S64x2048) ![0, 0] S64x2048.size hh, sentOf (pAt A X l c)⟩ :: Ls) : sProp 𝕄)
      ⊢ iprop((sndM.view.loc ((c : Dev nD) : Thread nD τ) ↦[sndM.view.set]{shr 0} sAt A X l c) ∗ (sndM.view.loc ((c : Dev nD) : Thread nD τ) ↦[sndM.view.set]{shr 1} sAt A X l c) ∗ (sndM.view.loc ((c : Dev nD) : Thread nD τ) ↦[sndM.view.set]{shr 2} sAt A X l c)) :=
  snd_deal c (snd_store hh f (sentOf (pAt A X l c)) Ls)

/-- and is whole again when they have all left. -/
theorem snd_join (c : Dev nD) (f : Buf (Elt F) (sndM.view.loc (c : Thread nD τ))) :
    iprop((sndM.view.loc ((c : Dev nD) : Thread nD τ) ↦[sndM.view.set]{shr 0} f) ∗ (sndM.view.loc ((c : Dev nD) : Thread nD τ) ↦[sndM.view.set]{shr 1} f) ∗ (sndM.view.loc ((c : Dev nD) : Thread nD τ) ↦[sndM.view.set]{shr 2} f)) ⊢ (sndM.view.loc (c : Thread nD τ) ↦{fullShare} f : sProp 𝕄) := by
  rw [snd_set]
  refine .trans ?_ (Transfers.pointsTo_toks_range fullShare 2).2
  rw [show Finset.range 2 = {0, 1} from rfl, BI.bigSep_insert (by decide), BI.bigSep_singleton]
  show iprop(_ ∗ _ ∗ _) ⊢ iprop(_ ∗ _ ∗ _)
  iintro ⟨H0, H1, H2⟩
  isplitl [H2]; · iexact H2
  isplitl [H0]; · iexact H0
  iexact H1

end Cert.KernelIdeal.Run

end
-- ==== Proof.RunIdealEnd.lean ====
module

public import proofs.«01_k».proof.Proof.RunIdealBody

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (S : ℕ → Dev nD → (cc0_scratch2 : Ref sig .tc).ty.Contents (Elt F))
variable (A : (c : Dev nD) → (b : Ref sig .tc) → Buf (Elt F) ((c : Thread nD τ).loc b))
variable (X : Dev nD → FVec F S64x2048 .f32)
variable (κ : Dev nD → Kind → ℕ) (c : Dev nD)

/-- The positions of `c` once every round of its cells is over. -/
def donePos : sProp 𝕄 :=
  iprop(atPos ER (barCell c) 1 ∅ 0
    ∗ atPos ER (sendCell 0 c) 3 ∅ 0
    ∗ atPos ER (sendCell 1 c) 3 ∅ 0
    ∗ atPos ER (sendCell 2 c) 3 ∅ 0
    ∗ atPos ER (recvCell 0 0 c) 1 ∅ 0
    ∗ atPos ER (recvCell 0 1 c) 1 ∅ 0
    ∗ atPos ER (recvCell 0 2 c) 1 ∅ 0
    ∗ atPos ER (recvCell 1 0 c) 1 ∅ 0
    ∗ atPos ER (recvCell 1 1 c) 1 ∅ 0
    ∗ atPos ER (recvCell 1 2 c) 1 ∅ 0
    ∗ atPos ER (recvCell 2 0 c) 1 ∅ 0
    ∗ atPos ER (recvCell 2 1 c) 1 ∅ 0
    ∗ atPos ER (recvCell 2 2 c) 1 ∅ 0)
/-- The counters of the cells between devices, closed. -/
def closed : sProp 𝕄 :=
  iprop(semVal (barCell c) 0
    ∗ semVal (sendCell 0 c) 0
    ∗ semVal (sendCell 1 c) 0
    ∗ semVal (sendCell 2 c) 0
    ∗ semVal (recvCell 0 0 c) 0
    ∗ semVal (recvCell 0 1 c) 0
    ∗ semVal (recvCell 0 2 c) 0
    ∗ semVal (recvCell 1 0 c) 0
    ∗ semVal (recvCell 1 1 c) 0
    ∗ semVal (recvCell 1 2 c) 0
    ∗ semVal (recvCell 2 0 c) 0
    ∗ semVal (recvCell 2 1 c) 0
    ∗ semVal (recvCell 2 2 c) 0)

theorem close_bar : iprop(inv S κ .bar barCell c ∗ atPos ER (barCell c) 1 ∅ 0) ⊢ |={Set.univ}=> semVal (barCell c) 0 :=
  Rounds.cell_close ER (sched S) (Set.mem_univ _) (fun h => h) (duties_bar_later S c)
theorem close_send (k : Fin 3) : iprop(inv S κ (.send k) (sendCell k) c ∗ atPos ER (sendCell k c) 3 ∅ 0) ⊢ |={Set.univ}=> semVal (sendCell k c) 0 :=
  Rounds.cell_close ER (sched S) (Set.mem_univ _) (fun h => h) (duties_send_later S c k)
theorem close_recv (l k : Fin 3) : iprop(inv S κ (.recv l k) (recvCell l k) c ∗ atPos ER (recvCell l k c) 1 ∅ 0) ⊢ |={Set.univ}=> semVal (recvCell l k c) 0 :=
  Rounds.cell_close ER (sched S) (Set.mem_univ _) (fun h => h) (duties_recv_later S c l k)

/-- Every cell between devices closes once its rounds are over: its counter is at zero. -/
theorem close_all : iprop(invs S κ c ∗ donePos c) ⊢ |={Set.univ}=> closed c := by
  unfold invs donePos closed
  iintro ⟨⟨#I0, #I1, #I2, #I3, #I4, #I5, #I6, #I7, #I8, #I9, #I10, #I11, #I12, -⟩, P0, P1, P2, P3, P4, P5, P6, P7, P8, P9, P10, P11, P12⟩
  imod (close_bar S κ c) $$ [P0] with Z0
  · isplitr; · iexact I0
    iexact P0
  imod (close_send S κ c  ) $$ [P1] with Z1
  · isplitr; · iexact I1
    iexact P1
  imod (close_send S κ c  ) $$ [P2] with Z2
  · isplitr; · iexact I2
    iexact P2
  imod (close_send S κ c  ) $$ [P3] with Z3
  · isplitr; · iexact I3
    iexact P3
  imod (close_recv S κ c    ) $$ [P4] with Z4
  · isplitr; · iexact I4
    iexact P4
  imod (close_recv S κ c    ) $$ [P5] with Z5
  · isplitr; · iexact I5
    iexact P5
  imod (close_recv S κ c    ) $$ [P6] with Z6
  · isplitr; · iexact I6
    iexact P6
  imod (close_recv S κ c    ) $$ [P7] with Z7
  · isplitr; · iexact I7
    iexact P7
  imod (close_recv S κ c    ) $$ [P8] with Z8
  · isplitr; · iexact I8
    iexact P8
  imod (close_recv S κ c    ) $$ [P9] with Z9
  · isplitr; · iexact I9
    iexact P9
  imod (close_recv S κ c    ) $$ [P10] with Z10
  · isplitr; · iexact I10
    iexact P10
  imod (close_recv S κ c    ) $$ [P11] with Z11
  · isplitr; · iexact I11
    iexact P11
  imod (close_recv S κ c    ) $$ [P12] with Z12
  · isplitr; · iexact I12
    iexact P12
  imodintro
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

/-- What the body of `c` ends with. -/
def ended : sProp 𝕄 :=
  iprop(closed c ∗ counters c ∗ slots c ∗ rings c ∗ weights c (A c)
    ∗ (∃ f, (sndM.view.loc (c : Thread nD τ) ↦{fullShare} f))
    ∗ (xM.view.loc (c : Thread nD τ) ↦{fullShare} X c)
    ∗ (oM.view.loc (c : Thread nD τ) ↦{fullShare} xAt A X 3 c)
    ∗ (∃ W, owes (c : Thread nD τ) 0 W))

/-- The last sum of received blocks, as the kernel writes it. -/
theorem pay45_eq (p : FVec F S64x2048 .f32) (a b d : Vec F S1x1x64x2048 .bf16) : k0_pay45 (k0_pay43 p a) (k0_pay44 b) d
    = addRecv (addRecv (addRecv p (shapeCast S64x2048 a shapeCasts_S1x1x64x2048_S64x2048)) (shapeCast S64x2048 b shapeCasts_S1x1x64x2048_S64x2048)) (shapeCast S64x2048 d shapeCasts_S1x1x64x2048_S64x2048) := rfl

/-- The result's buffer after the last store. -/
theorem out_final (hh) (v : FVec F S64x2048 .f32) (f) (Ls) :
    (oM.view.loc (c : Thread nD τ) ↦{fullShare} oM.view.writes (Elt F) f (⟨Rect.unit (s := S64x2048) ![0, 0] S64x2048.size hh, v⟩ :: Ls) : sProp 𝕄)
      ⊢ ∃ g : FVec F S64x2048 .f32, iprop(⌜v = xAt A X 3 c → g = xAt A X 3 c⌝ ∗ (oM.view.loc (c : Thread nD τ) ↦{fullShare} g)) := by
  rw [out_store]
  iintro H; iexists v
  isplitr; · ipureintro; exact id
  iexact H

/-- A landing slot holds something. -/
theorem slot_close (l k : Fin 3) (f) : ((rslot l k).view.loc ((c : Dev nD) : Thread nD τ) ↦[(rslot l k).view.set]{fullShare} f : sProp 𝕄) ⊢ slotEx l k c := by
  unfold slotEx; iintro H; iexists f; iexact H

end Cert.KernelIdeal.Run

end
-- ==== Proof.RunIdealCells.lean ====
module

public import proofs.«01_k».proof.Proof.RunIdealEnd

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells between devices, one family -/

/-- The semaphores of the thirteen cells between devices. -/
abbrev csem : Fin 13 → SemLoc sig := fun
  | 0 => .reg barS
  | 1 => .dma (ssm 0).sem
  | 2 => .dma (ssm 1).sem
  | 3 => .dma (ssm 2).sem
  | 4 => .dma (rsm 0 0).sem
  | 5 => .dma (rsm 0 1).sem
  | 6 => .dma (rsm 0 2).sem
  | 7 => .dma (rsm 1 0).sem
  | 8 => .dma (rsm 1 1).sem
  | 9 => .dma (rsm 1 2).sem
  | 10 => .dma (rsm 2 0).sem
  | 11 => .dma (rsm 2 1).sem
  | 12 => .dma (rsm 2 2).sem
/-- Cell `k` of device `c`. -/
abbrev kcell (ck : Dev nD × Fin 13) : GSem nD τ sig := ((ck.1 : Thread nD τ), csem ck.2)
/-- The place of a kind of cell in the family. -/
def ixOf : Kind → Fin 13
  | .bar => 0
  | .send k => ⟨1 + k.val, by omega⟩
  | .recv l k => ⟨4 + 3 * l.val + k.val, by omega⟩

theorem csem_injective : ∀ k k' : Fin 13, csem k = csem k' → k = k' := by decide
theorem kcell_injective : Function.Injective (kcell : Dev nD × Fin 13 → GSem nD τ sig) := by
  rintro ⟨c, k⟩ ⟨c', k'⟩ h
  have h1 : c = c' := congrArg (fun g : GSem nD τ sig => g.1.1) h
  subst h1
  exact congrArg (Prod.mk c) (csem_injective k k' (congrArg Prod.snd h))
def allCells : Finset (GSem nD τ sig) := Finset.univ.map ⟨kcell, kcell_injective⟩

/-- The duties of one device's cells: which cell, which round, which duty. -/
abbrev tokTab : Fin 21 → Fin 13 × ℕ × Fin 3 := fun
  | 0 => (0, 0, 2)
  | 1 => (0, 0, 1)
  | 2 => (0, 0, 0)
  | 3 => (1, 0, 0)
  | 4 => (2, 0, 0)
  | 5 => (3, 0, 0)
  | 6 => (1, 1, 0)
  | 7 => (2, 1, 0)
  | 8 => (3, 1, 0)
  | 9 => (1, 2, 0)
  | 10 => (2, 2, 0)
  | 11 => (3, 2, 0)
  | 12 => (4, 0, 0)
  | 13 => (5, 0, 0)
  | 14 => (6, 0, 0)
  | 15 => (7, 0, 0)
  | 16 => (8, 0, 0)
  | 17 => (9, 0, 0)
  | 18 => (10, 0, 0)
  | 19 => (11, 0, 0)
  | _ => (12, 0, 0)
theorem tokTab_injective : ∀ j j' : Fin 21, tokTab j = tokTab j' → j = j' := by decide
abbrev tokOf (cj : Dev nD × Fin 21) : GSem nD τ sig × ℕ × Fin 3 := (kcell (cj.1, (tokTab cj.2).1), (tokTab cj.2).2.1, (tokTab cj.2).2.2)
theorem tokOf_injective : Function.Injective (tokOf : Dev nD × Fin 21 → GSem nD τ sig × ℕ × Fin 3) := by
  rintro ⟨c, j⟩ ⟨c', j'⟩ h
  have h0 := kcell_injective (congrArg (fun x : GSem nD τ sig × ℕ × Fin 3 => x.1) h)
  have h1 : c = c' := congrArg Prod.fst h0
  have h2 : (tokTab j).1 = (tokTab j').1 := congrArg Prod.snd h0
  have h3 : (tokTab j).2 = (tokTab j').2 := congrArg (fun x : GSem nD τ sig × ℕ × Fin 3 => x.2) h
  subst h1
  exact congrArg (Prod.mk c) (tokTab_injective j j' (Prod.ext h2 h3))
def allToks : Finset (GSem nD τ sig × ℕ × Fin 3) := Finset.univ.map ⟨tokOf, tokOf_injective⟩

/-- The launch element: the pipeline's rounds, the cells' rounds, the counters of the weight copies. -/
def u₀ : UU :=
  (initOf (Pipeline.cells cfgs cellOf_inj) (Pipeline.launchToks cfgs cellOf_inj), (initOf allCells allToks, 1))

theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

/-- Duty `j` of the cells of `c`. -/
abbrev tokAt (c : Dev nD) (j : Fin 21) : sProp 𝕄 := dutyTok ER (tokOf (c, j)).1 (tokOf (c, j)).2.1 (tokOf (c, j)).2.2

variable (S : ℕ → Dev nD → (cc0_scratch2 : Ref sig .tc).ty.Contents (Elt F))

/-- What the launch element deals device `c`. -/
def G (c : Dev nD) : sProp 𝕄 :=
  iprop((bigSep Finset.univ fun k : Fin 13 => roundState ER (sched S) (kcell (c, k)) 0)
    ∗ (bigSep Finset.univ fun k : Fin 13 => iprop(atPos ER (kcell (c, k)) 0 ∅ 0 ∗ reached ER (kcell (c, k)) 0))
    ∗ bigSep Finset.univ fun j : Fin 21 => tokAt c j)

theorem fund_cells : BI.own (ER (initOf allCells allToks)) ⊢ (|==> bigSep Finset.univ (G S) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : Fin 21 => tokAt c j := by
    unfold allToks; rw [bigSep_map, bigSep_univ_prod]; rfl
  iintro HX
  imod (Rounds.fund ER (sched S) allCells allToks) $$ HX with ⟨Hst, Hr, Hat, Htok⟩
  imodintro
  ihave Hst' := (Entails.of_eq (hX fun g => roundState ER (sched S) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: all but the two of the staging buffers. -/
abbrev osem : Fin 20 → SemLoc sig := fun i => .dma (⟨2 + i.val, by show 2 + i.val < 22; omega⟩ : DmaSem sig)
theorem ownSemFacts : Pipeline.OwnSemFacts cfg0.spec osem := by decide

/-- They are the eight of the weight copies and the twelve of the copies between devices; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma (wsm 0).sem) 0 ∗ semVal ((c : Thread nD τ), .dma (wsm 1).sem) 0 ∗ semVal ((c : Thread nD τ), .dma (wsm 2).sem) 0 ∗ semVal ((c : Thread nD τ), .dma (wsm 3).sem) 0 ∗ semVal ((c : Thread nD τ), .dma (osm 0).sem) 0 ∗ semVal ((c : Thread nD τ), .dma (osm 1).sem) 0 ∗ semVal ((c : Thread nD τ), .dma (osm 2).sem) 0 ∗ semVal ((c : Thread nD τ), .dma (osm 3).sem) 0 ∗ semVal (sendCell 0 c) 0 ∗ semVal (sendCell 1 c) 0 ∗ semVal (sendCell 2 c) 0 ∗ semVal (recvCell 0 0 c) 0 ∗ semVal (recvCell 0 1 c) 0 ∗ semVal (recvCell 0 2 c) 0 ∗ semVal (recvCell 1 0 c) 0 ∗ semVal (recvCell 1 1 c) 0 ∗ semVal (recvCell 1 2 c) 0 ∗ semVal (recvCell 2 0 c) 0 ∗ semVal (recvCell 2 1 c) 0 ∗ semVal (recvCell 2 2 c) 0) := by
  rw [Pipeline.ownSems0_eq_of_list c osem [0, 1, 2, 3, 4, 5, 6, 7, 8, 9, 10, 11, 12, 13, 14, 15, 16, 17, 18, 19] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- At launch and at the end the counters are those of the weight copies and those of the cells between devices. -/
theorem sems_split (c : Dev nD) :
    iprop(Pipeline.ownSems0 (Ix := Unit) (Name := ℕ) (U := UU) (Lvl := ℕ) (Val := Elt F) (τ := τ) osem c ∗ unscopedSems0 c)
      ⊢ (iprop(counters c ∗ closed c) : sProp 𝕄) := by
  rw [ownSems0_eq, unscopedSems0_eq]
  unfold counters closed
  iintro ⟨⟨H0, H1, H2, H3, H4, H5, H6, H7, H8, H9, H10, H11, H12, H13, H14, H15, H16, H17, H18, H19⟩, HB⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HB]; · iexact HB
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19
theorem sems_join (c : Dev nD) : (iprop(counters c ∗ closed c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold counters closed
  iintro ⟨⟨H0, H1, H2, H3, H4, H5, H6, H7⟩, ⟨HB, H8, H9, H10, H11, H12, H13, H14, H15, H16, H17, H18, H19⟩⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19
theorem closed_eq (c : Dev nD) : (closed c : sProp 𝕄) = bigSep Finset.univ fun k : Fin 13 => semVal (kcell (c, k)) 0 := by
  rw [bigSep_fin13]; rfl

theorem core_alloc (c : Dev nD) :
    iprop(Pipeline.ownSems0 (Ix := Unit) (Name := ℕ) (U := UU) (Lvl := ℕ) (Val := Elt F) (τ := τ) osem c ∗ unscopedSems0 c ∗ G S c)
      ⊢ |={Set.univ}=> iprop((bigSep Finset.univ fun k => iprop(∃ κ : ℕ, cellInv ER (sched S) κ (kcell (c, k))))
          ∗ (bigSep Finset.univ fun k => iprop(atPos ER (kcell (c, k)) 0 ∅ 0 ∗ reached ER (kcell (c, k)) 0))
          ∗ counters c ∗ bigSep Finset.univ fun j : Fin 21 => tokAt c j) := by
  unfold G
  iintro ⟨Hos, Hus, Hst, Hat, Htok⟩
  ihave Hv := (sems_split (F := F) c) $$ [Hos Hus]
  · isplitl [Hos] <;> iassumption
  icases Hv with ⟨Hcnt, Hv⟩
  ihave Hv := (Entails.of_eq (closed_eq c)) $$ Hv
  imod (show iprop((bigSep Finset.univ fun k : Fin 13 => semVal (kcell (c, k)) 0) ∗ bigSep Finset.univ fun k : Fin 13 => roundState ER (sched S) (kcell (c, k)) 0)
      ⊢ (|={Set.univ}=> bigSep Finset.univ fun k => iprop(∃ κ : ℕ, cellInv ER (sched S) κ (kcell (c, k))) : sProp 𝕄) from by
        rw [← bigSep_sep']
        exact (bigSep_mono fun k _ => (Rounds.body_intro ER (sched S) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hcnt]; · iexact Hcnt
  iexact Htok

/-- The invariants and the reached rounds of every cell. -/
def records (K : Dev nD × Fin 13 → ℕ) : sProp 𝕄 :=
  iprop((bigSep Finset.univ fun ck : Dev nD × Fin 13 => cellInv ER (sched S) (K ck) (kcell ck))
    ∗ bigSep Finset.univ fun ck : Dev nD × Fin 13 => reached ER (kcell ck) 0)

instance records_persistent (K : Dev nD × Fin 13 → ℕ) : BI.Persistent (records S K) := by unfold records; infer_instance

theorem inv_at (K : Dev nD × Fin 13 → ℕ) (ck : Dev nD × Fin 13) :
    (bigSep Finset.univ fun ck : Dev nD × Fin 13 => (cellInv ER (sched S) (K ck) (kcell ck) : sProp 𝕄)) ⊢ cellInv ER (sched S) (K ck) (kcell ck) :=
  bigSep_elim (Finset.mem_univ ck)
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

/-- The name of a cell's invariant. -/
def nameOf (K : Dev nD × Fin 13 → ℕ) (c : Dev nD) (k : Kind) : ℕ := K (c, ixOf k)

theorem invs_intro (K : Dev nD × Fin 13 → ℕ) (c : Dev nD) : records S K ⊢ invs S (nameOf K) c := by
  unfold records invs
  iintro ⟨#HI, -⟩
  isplitr; · iapply (inv_at S K (c, 0)); iexact HI
  isplitr; · iapply (inv_at S K (c, 1)); iexact HI
  isplitr; · iapply (inv_at S K (c, 2)); iexact HI
  isplitr; · iapply (inv_at S K (c, 3)); iexact HI
  isplitr; · iapply (inv_at S K (c, 4)); iexact HI
  isplitr; · iapply (inv_at S K (c, 5)); iexact HI
  isplitr; · iapply (inv_at S K (c, 6)); iexact HI
  isplitr; · iapply (inv_at S K (c, 7)); iexact HI
  isplitr; · iapply (inv_at S K (c, 8)); iexact HI
  isplitr; · iapply (inv_at S K (c, 9)); iexact HI
  isplitr; · iapply (inv_at S K (c, 10)); iexact HI
  isplitr; · iapply (inv_at S K (c, 11)); iexact HI
  isplitr; · iapply (inv_at S K (c, 12)); iexact HI
  isplitr; · iapply (inv_at S K ((peer 1 c), 0)); iexact HI
  isplitr; · iapply (inv_at S K ((peer 2 c), 0)); iexact HI
  isplitr; · iapply (inv_at S K ((peer 3 c), 0)); iexact HI
  isplitr; · iapply (inv_at S K ((peer 1 c), 4)); iexact HI
  isplitr; · iapply (inv_at S K ((peer 2 c), 5)); iexact HI
  isplitr; · iapply (inv_at S K ((peer 3 c), 6)); iexact HI
  isplitr; · iapply (inv_at S K ((peer 1 c), 7)); iexact HI
  isplitr; · iapply (inv_at S K ((peer 2 c), 8)); iexact HI
  isplitr; · iapply (inv_at S K ((peer 3 c), 9)); iexact HI
  isplitr; · iapply (inv_at S K ((peer 1 c), 10)); iexact HI
  isplitr; · iapply (inv_at S K ((peer 2 c), 11)); iexact HI
  iapply (inv_at S K ((peer 3 c), 12)); iexact HI
theorem marks_intro (K : Dev nD × Fin 13 → ℕ) (c : Dev nD) : records S K ⊢ marks c := by
  unfold records marks
  iintro ⟨-, #HR⟩
  isplitr; · iapply (reached_at (F := F) ((peer 1 c), 0)); iexact HR
  isplitr; · iapply (reached_at (F := F) ((peer 2 c), 0)); iexact HR
  isplitr; · iapply (reached_at (F := F) ((peer 3 c), 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) ((peer 1 c), 4)); iexact HR
  isplitr; · iapply (reached_at (F := F) ((peer 2 c), 5)); iexact HR
  isplitr; · iapply (reached_at (F := F) ((peer 3 c), 6)); iexact HR
  isplitr; · iapply (reached_at (F := F) ((peer 1 c), 7)); iexact HR
  isplitr; · iapply (reached_at (F := F) ((peer 2 c), 8)); iexact HR
  isplitr; · iapply (reached_at (F := F) ((peer 3 c), 9)); iexact HR
  isplitr; · iapply (reached_at (F := F) ((peer 1 c), 10)); iexact HR
  isplitr; · iapply (reached_at (F := F) ((peer 2 c), 11)); iexact HR
  iapply (reached_at (F := F) ((peer 3 c), 12)); iexact HR

/-- The devices `t` places on, as a permutation. -/
def around : Fin 4 → (Dev nD ≃ Dev nD)
  | 0 => Equiv.refl _
  | 1 => ⟨peer 1, peer 3, peer_1_3, peer_3_1⟩
  | 2 => ⟨peer 2, peer 2, peer_2_2, peer_2_2⟩
  | 3 => ⟨peer 3, peer 1, peer_3_1, peer_1_3⟩
/-- How far on the device lies whose duty `j` a device pays. -/
def shift : Fin 21 → Fin 4 := fun
  | 0 => 1
  | 1 => 2
  | 2 => 3
  | 3 => 0
  | 4 => 0
  | 5 => 0
  | 6 => 0
  | 7 => 0
  | 8 => 0
  | 9 => 0
  | 10 => 0
  | 11 => 0
  | 12 => 1
  | 13 => 2
  | 14 => 3
  | 15 => 1
  | 16 => 2
  | 17 => 3
  | 18 => 1
  | 19 => 2
  | _ => 3

theorem tokens_eq (c : Dev nD) : (tokens c : sProp 𝕄) = bigSep Finset.univ fun j : Fin 21 => tokAt (around (shift j) c) j := by
  rw [bigSep_fin21]; rfl
/-- Every device's duties, dealt to the devices that pay them. -/
theorem toks_around : (bigSep Finset.univ fun c : Dev nD => bigSep Finset.univ fun j : Fin 21 => (tokAt c j : sProp 𝕄))
    = bigSep Finset.univ fun c : Dev nD => tokens c := by
  rw [bigSep_congr (s := Finset.univ) fun (c : Dev nD) _ => tokens_eq (F := F) c]
  refine (bigSep_univ_comm _).trans (Eq.trans ?_ (bigSep_univ_comm _).symm)
  exact bigSep_congr fun j _ => bigSep_univ_equiv (around (shift j)) fun c : Dev nD => (tokAt c j : sProp 𝕄)

/-- What device `c` starts from of the cells, under some names. -/
def G' (c : Dev nD) : sProp 𝕄 := iprop(∃ κ, invs S κ c ∗ marks c ∗ positions c ∗ tokens c ∗ counters c)

theorem ghost_intro (K : Dev nD × Fin 13 → ℕ) (c : Dev nD) : iprop(records S K ∗ (positions c ∗ counters c ∗ tokens c)) ⊢ G' S c := by
  unfold G'
  iintro ⟨#HR, HP, HC, HT⟩
  iexists (nameOf K)
  isplitr; · iapply (invs_intro S K c); iexact HR
  isplitr; · iapply (marks_intro S K c); iexact HR
  isplitl [HP]; · iexact HP
  isplitl [HT]; · iexact HT
  iexact HC

theorem with_persistent {I : Type} [DecidableEq I] {T : Finset I} {R : sProp 𝕄} [BI.Persistent R] {Φ Ψ : I → sProp 𝕄}
    (h : ∀ i ∈ T, iprop(R ∗ Φ i) ⊢ Ψ i) : iprop(R ∗ bigSep T Φ) ⊢ bigSep T Ψ :=
  (sep_mono_left (BI.bigSep_of_persistent T R)).trans (by rw [← bigSep_sep']; exact bigSep_mono h)

theorem positions_eq (c : Dev nD) : (positions c : sProp 𝕄) = bigSep Finset.univ fun k : Fin 13 => atPos ER (kcell (c, k)) 0 ∅ 0 := by
  rw [bigSep_fin13]; rfl

theorem regroup :
    (bigSep Finset.univ fun c : Dev nD => iprop((bigSep Finset.univ fun k => iprop(∃ κ : ℕ, cellInv ER (sched S) κ (kcell (c, k))))
          ∗ (bigSep Finset.univ fun k => iprop(atPos ER (kcell (c, k)) 0 ∅ 0 ∗ reached ER (kcell (c, k)) 0))
          ∗ counters c ∗ bigSep Finset.univ fun j : Fin 21 => tokAt c j) : sProp 𝕄)
      ⊢ bigSep Finset.univ (G' S) := by
  rw [bigSep_sep', bigSep_sep', bigSep_sep', toks_around, ← bigSep_univ_prod (fun ck : Dev nD × Fin 13 => iprop(∃ κ : ℕ, cellInv ER (sched S) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄)),
    ← bigSep_congr (s := Finset.univ) (fun (c : Dev nD) _ => positions_eq (F := F) c)]
  iintro ⟨HI, ⟨Hat, #HR⟩, Hcnt, Htok⟩
  ihave HK := (BI.bigSep_exists_pi Finset.univ (fun (ck : Dev nD × Fin 13) (κ : ℕ) => (cellInv ER (sched S) κ (kcell ck) : sProp 𝕄))) $$ HI
  icases HK with ⟨%K, #HI⟩
  iapply (with_persistent (R := records S K) fun c _ => ghost_intro S K c)
  isplitr
  · unfold records; isplitl; · iexact HI
    iexact HR
  · rw [bigSep_sep', bigSep_sep']
    isplitl [Hat]; · iexact Hat
    isplitl [Hcnt]; · iexact Hcnt
    iexact Htok

/-- The global step at launch: the cells of every device at once. -/
theorem glob : (bigSep Finset.univ fun c => iprop(Pipeline.ownSems0 (Ix := Unit) (Name := ℕ) (U := UU) (Lvl := ℕ) (Val := Elt F) (τ := τ) osem c ∗ unscopedSems0 c ∗ G S c) : sProp 𝕄)
    ⊢ |={Set.univ}=> bigSep Finset.univ (G' S) :=
  ((bigSep_mono fun c _ => core_alloc S c).trans (bigSep_fupd _ _)).trans (BI.fupd_mono (regroup S))

end Cert.KernelIdeal.Run

end
-- ==== Proof.RunIdealSlots.lean ====
module

public import proofs.«01_k».proof.Proof.RunIdealCells
public import Idealize.ShloMosaic.Lib.Ring.FamCut
public import Idealize.ShloMosaic.Lib.ViewIndex

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers as families of slots -/

theorem wslot_disjoint (i j : Fin 4) (h : i ≠ j) : Disjoint (wslot i).view.set (wslot j).view.set := by
  unfold wslot
  rw [Memref.set_view_squeeze, Memref.set_view_squeeze]
  refine View.disjoint_slice (Rect.unit_disjoint (0 : Fin 3) ?_)
  revert i j; decide
theorem oslot_disjoint (i j : Fin 4) (h : i ≠ j) : Disjoint (oslot i).view.set (oslot j).view.set := by
  unfold oslot
  rw [Memref.set_view_squeeze, Memref.set_view_squeeze]
  refine View.disjoint_slice (Rect.unit_disjoint (0 : Fin 3) ?_)
  revert i j; decide
theorem rslot_disjoint (p q : Fin 3 × Fin 3) (h : p ≠ q) : Disjoint (rslot p.1 p.2).view.set (rslot q.1 q.2).view.set := by
  unfold rslot
  rw [Memref.set_view_squeeze, Memref.set_view_squeeze]
  by_cases h1 : p.1 = q.1
  · refine View.disjoint_slice (Rect.unit_disjoint (1 : Fin 4) ?_)
    revert p q; decide
  · refine View.disjoint_slice (Rect.unit_disjoint (0 : Fin 4) ?_)
    revert p q; decide

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin33 (Φ : Fin 3 × Fin 3 → sProp 𝕄) : bigSep Finset.univ Φ
    = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL [(0, 0), (0, 1), (0, 2), (1, 0), (1, 1), (1, 2), (2, 0), (2, 1), (2, 2)] (by decide) (by decide) Φ

variable (c : Dev nD)

/-- What lies in the buffers beside their slots (nothing is ever read or written there). -/
def rest : sProp 𝕄 :=
  iprop((∃ f : Buf (Elt F) ((c : Thread nD τ).loc cc0_scratch0), ((c : Thread nD τ).loc cc0_scratch0) ↦[Ring.restOf (fun j : Fin 4 => (wslot j).view.set)]{fullShare} f)
    ∗ (∃ f : Buf (Elt F) ((c : Thread nD τ).loc cc0_scratch1), ((c : Thread nD τ).loc cc0_scratch1) ↦[Ring.restOf (fun j : Fin 4 => (oslot j).view.set)]{fullShare} f)
    ∗ (∃ f : Buf (Elt F) ((c : Thread nD τ).loc cc0_scratch3), ((c : Thread nD τ).loc cc0_scratch3) ↦[Ring.restOf (fun p : Fin 3 × Fin 3 => (rslot p.1 p.2).view.set)]{fullShare} f))

theorem scratch_split :
    (Pipeline.scopedRest (Ix := Unit) (Name := ℕ) (U := UU) (Lvl := ℕ) (Val := Elt F) spec0 c : sProp 𝕄)
      ⊢ iprop(slots c ∗ rings c ∗ (∃ f, sndM.view.loc (c : Thread nD τ) ↦{fullShare} f) ∗ rest c) := by
  rw [scopedRest0_eq]
  iintro ⟨H0, H1, H2, H3⟩
  ihave H0 := (Ring.fam_split_ex (ℓ := (c : Thread nD τ).loc cc0_scratch0) (fun j : Fin 4 => (wslot j).view.set) wslot_disjoint) $$ H0
  ihave H1 := (Ring.fam_split_ex (ℓ := (c : Thread nD τ).loc cc0_scratch1) (fun j : Fin 4 => (oslot j).view.set) oslot_disjoint) $$ H1
  ihave H3 := (Ring.fam_split_ex (ℓ := (c : Thread nD τ).loc cc0_scratch3) (fun p : Fin 3 × Fin 3 => (rslot p.1 p.2).view.set) rslot_disjoint) $$ H3
  icases H0 with ⟨HW, R0⟩
  icases H1 with ⟨HO, R1⟩
  icases H3 with ⟨HR, R3⟩
  ihave HW := (Entails.of_eq (bigSep_fin4 _)) $$ HW
  ihave HO := (Entails.of_eq (bigSep_fin4 _)) $$ HO
  ihave HR := (Entails.of_eq (bigSep_fin33 _)) $$ HR
  unfold slots rings rest slotEx
  icases HW with ⟨W0, W1, W2, W3⟩
  icases HO with ⟨O0, O1, O2, O3⟩
  isplitl [HR]; · iexact HR
  isplitl [W0 W1 W2 W3 O0 O1 O2 O3]
  · isplitl [W0]; · iexact W0
    isplitl [W1]; · iexact W1
    isplitl [W2]; · iexact W2
    isplitl [W3]; · iexact W3
    isplitl [O0]; · iexact O0
    isplitl [O1]; · iexact O1
    isplitl [O2]; · iexact O2
    iexact O3
  isplitl [H2]; · iexact H2
  isplitl [R0]; · iexact R0
  isplitl [R1]; · iexact R1
  iexact R3

theorem scratch_join :
    (iprop(slots c ∗ rings c ∗ (∃ f, sndM.view.loc (c : Thread nD τ) ↦{fullShare} f) ∗ rest c) : sProp 𝕄)
      ⊢ (Pipeline.scopedRest (Ix := Unit) (Name := ℕ) (U := UU) (Lvl := ℕ) (Val := Elt F) spec0 c : sProp 𝕄) := by
  rw [scopedRest0_eq]
  unfold slots rings rest slotEx
  iintro ⟨HR, ⟨W0, W1, W2, W3, O0, O1, O2, O3⟩, H2, ⟨%f0, R0⟩, ⟨%f1, R1⟩, ⟨%f3, R3⟩⟩
  isplitl [W0 W1 W2 W3 R0]
  · iapply (Ring.fam_join (ℓ := (c : Thread nD τ).loc cc0_scratch0) (fun j : Fin 4 => (wslot j).view.set) wslot_disjoint f0)
    rw [bigSep_fin4]
    isplitl [W0 W1 W2 W3]
    · isplitl [W0]; · iexact W0
      isplitl [W1]; · iexact W1
      isplitl [W2]; · iexact W2
      iexact W3
    iexists f0; iexact R0
  isplitl [O0 O1 O2 O3 R1]
  · iapply (Ring.fam_join (ℓ := (c : Thread nD τ).loc cc0_scratch1) (fun j : Fin 4 => (oslot j).view.set) oslot_disjoint f1)
    rw [bigSep_fin4]
    isplitl [O0 O1 O2 O3]
    · isplitl [O0]; · iexact O0
      isplitl [O1]; · iexact O1
      isplitl [O2]; · iexact O2
      iexact O3
    iexists f1; iexact R1
  isplitl [H2]; · iexact H2
  iapply (Ring.fam_join (ℓ := (c : Thread nD τ).loc cc0_scratch3) (fun p : Fin 3 × Fin 3 => (rslot p.1 p.2).view.set) rslot_disjoint f3)
  rw [bigSep_fin33]
  isplitl [HR]; · iexact HR
  iexists f3; iexact R3

/-! ## The launch credit -/

theorem recv_eq_iff {l k l' k' : Fin 3} {a b : Dev nD} : (recvCell l k a = recvCell l' k' b) ↔ (l = l' ∧ k = k' ∧ a = b) := by
  constructor
  · intro h
    have h1 : a = b := congrArg (fun g : GSem nD τ sig => g.1.1) h
    have h2 : SemLoc.dma (rsm l k).sem = SemLoc.dma (rsm l' k').sem := congrArg Prod.snd h
    refine ⟨?_, ?_, h1⟩
    · clear h; revert h2; revert l k l' k'; decide
    · clear h; revert h2; revert l k l' k'; decide
  · rintro ⟨rfl, rfl, rfl⟩; rfl
theorem bar_eq_iff {a b : Dev nD} : (barCell a = barCell b) ↔ a = b :=
  ⟨fun h => congrArg (fun g : GSem nD τ sig => g.1.1) h, fun h => h ▸ rfl⟩
theorem recv_ne_bar {l k : Fin 3} {a b : Dev nD} : ¬ recvCell l k a = barCell b := fun h => by cases congrArg Prod.snd h
theorem bar_ne_recv {l k : Fin 3} {a b : Dev nD} : ¬ barCell b = recvCell l k a := fun h => by cases congrArg Prod.snd h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀, Pi.add_apply, Finsupp.add_apply, tallyAt_apply, bar_eq_iff, bar_ne_recv, false_and, and_true, if_false, Nat.zero_add]
  revert c; decide
theorem launch_recv (l k : Fin 3) (c : Dev nD) :
    tallyOn (recvCell l k c) (launchCredit (Pipeline.owing O₀) 0 (recvCell l k c)) = (tallyAt (recvCell l k c) () N : CellTallies nD τ sig Unit) := by
  unfold tallyAt; refine congrArg _ (Finsupp.ext fun u => ?_); cases u
  rw [Pipeline.launchCredit_owing, Finsupp.single_eq_same]
  simp only [O₀, Pi.add_apply, Finsupp.add_apply, tallyAt_apply, recv_eq_iff, recv_ne_bar, false_and, and_true, if_false, Nat.add_zero]
  revert l k c; decide

/-- The cells a device is owed on. -/
abbrev owedSem : Fin 10 → SemLoc sig := fun
  | 0 => .reg barS
  | 1 => .dma (rsm 0 0).sem
  | 2 => .dma (rsm 0 1).sem
  | 3 => .dma (rsm 0 2).sem
  | 4 => .dma (rsm 1 0).sem
  | 5 => .dma (rsm 1 1).sem
  | 6 => .dma (rsm 1 2).sem
  | 7 => .dma (rsm 2 0).sem
  | 8 => .dma (rsm 2 1).sem
  | 9 => .dma (rsm 2 2).sem
theorem owedSem_injective : ∀ i j : Fin 10, owedSem i = owedSem j → i = j := by decide

theorem creds (c : Dev nD) : (Pipeline.launchCred O₀ c : sProp 𝕄) ⊢ credits c := by
  unfold Pipeline.launchCred
  refine BI.Entails.trans (bigSep_subset (M := 𝕄) (t := Finset.univ.map ⟨owedSem, fun i j h => owedSem_injective i j h⟩) (Finset.subset_univ _)) ?_
  rw [bigSep_map, bigSep_univ_eq_bigSepL [0, 1, 2, 3, 4, 5, 6, 7, 8, 9] (by decide) (by decide)]
  unfold credits
  rw [← launch_bar, ← launch_recv 0 0, ← launch_recv 0 1, ← launch_recv 0 2, ← launch_recv 1 0, ← launch_recv 1 1, ← launch_recv 1 2, ← launch_recv 2 0, ← launch_recv 2 1, ← launch_recv 2 2]
  exact BI.Entails.refl _

end Cert.KernelIdeal.Run

end
-- ==== Proof.RunIdealRun.lean ====
module

public import proofs.«01_k».proof.Proof.RunIdealEnd

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local sl_rounds] duties_bar duties_recv amount_bar amount_send amount_recv expect_bar expect_recv
  tab_send_duty0 tab_send_duty1 tab_send_duty2 tab_send_exp0 tab_send_exp1 tab_send_exp2 tab_send
  tab_bar_from0 tab_bar_from1 tab_bar_from2
  tab_from0 tab_from1 tab_from2
attribute [local sl_rounds 2000] tab_bar_to1 tab_bar_to2 tab_bar_to3
  tab_to0 tab_to1 tab_to2
attribute [local irreducible] peer
attribute [local sl_canon] tc_fst dev1_eq dev2_eq dev3_eq dev4_eq dev5_eq dev6_eq dev7_eq dev8_eq dev9_eq dev10_eq dev11_eq dev12_eq

variable (A : (c : Dev nD) → (b : Ref sig .tc) → Buf (Elt F) ((c : Thread nD τ).loc b))
variable (X : Dev nD → FVec F S64x2048 .f32)
variable (κ : Dev nD → Kind → ℕ) (c : Dev nD)

set_option maxHeartbeats 3000000 in
/-- The body of `c`, from what it starts from to what it ends with. -/
theorem body_run (Y : Buf (Elt F) ((c : Thread nD τ).loc cc0_stg1_0)) (W : Waits sig Unit) :
    iprop(invs (sAt A X) κ c ∗ marks c ∗ levAts L lv ∗ positions c ∗ tokens c ∗ credits c ∗ counters c ∗ slots c ∗ rings c ∗ weights c (A c)
        ∗ (∃ f, (sndM.view.loc (c : Thread nD τ) ↦{fullShare} f))
        ∗ (xM.view.loc (c : Thread nD τ) ↦{fullShare} X c)
        ∗ (oM.view.loc (c : Thread nD τ) ↦{fullShare} Y)
        ∗ owes (c : Thread nD τ) (O₀ c) W
        )
      ⊢ wp frame (wpE (defs₀ (F := F)) 𝒱₀ c none) Set.univ
          (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) winM (Memref.isWhole_whole _) woutM (Memref.isWhole_whole _) sndM (Memref.isWhole_whole _) rcvM (Memref.isWhole_whole _) cc0_scratch4 cc0_scratch5 cc0_scratch6 cc0_scratch7) (fun _ => ended A X c) := by
  unfold O₀ invs marks positions tokens credits counters slots rings weights
  iintro ⟨⟨#I0, #IS0, #IS1, #IS2, #IR00, #IR01, #IR02, #IR10, #IR11, #IR12, #IR20, #IR21, #IR22, #IB1, #IB2, #IB3, #IQ00, #IQ01, #IQ02, #IQ10, #IQ11, #IQ12, #IQ20, #IQ21, #IQ22⟩,
    ⟨#MB1, #MB2, #MB3, #MS0, #MS1, #MS2, #MR00, #MR01, #MR02, #MR10, #MR11, #MR12, #MR20, #MR21, #MR22⟩, #Hlev,
    ⟨PB, PS0, PS1, PS2, PR00, PR01, PR02, PR10, PR11, PR12, PR20, PR21, PR22⟩,
    ⟨TB1, TB2, TB3, TS00, TS01, TS02, TS10, TS11, TS12, TS20, TS21, TS22, TR00, TR01, TR02, TR10, TR11, TR12, TR20, TR21, TR22⟩,
    ⟨CB, CR00, CR01, CR02, CR10, CR11, CR12, CR20, CR21, CR22⟩,
    ⟨ZW0, ZW1, ZW2, ZW3, ZO0, ZO1, ZO2, ZO3⟩,
    ⟨R00, R01, R02, R10, R11, R12, R20, R21, R22⟩,
    ⟨⟨%fw0, W0⟩, ⟨%fw1, W1⟩, ⟨%fw2, W2⟩, ⟨%fw3, W3⟩, ⟨%fo0, Q0⟩, ⟨%fo1, Q1⟩, ⟨%fo2, Q2⟩, ⟨%fo3, Q3⟩⟩,
    ⟨A1, A2, A3, A4, A5, A6⟩, ⟨%fs, B⟩, HX, HY, HO⟩
  have hw := wslot_sub
  have ho := oslot_sub
  have hr := rslot_sub
  have hml2 := mayWait_low (F := F) c 2 (by decide)
  have hml3 := mayWait_low (F := F) c 3 (by decide)
  have hml4 := mayWait_low (F := F) c 4 (by decide)
  have hml5 := mayWait_low (F := F) c 5 (by decide)
  have hml6 := mayWait_low (F := F) c 6 (by decide)
  have hml7 := mayWait_low (F := F) c 7 (by decide)
  have hml8 := mayWait_low (F := F) c 8 (by decide)
  have hml9 := mayWait_low (F := F) c 9 (by decide)
  have hms0 := mayWait_ssm (F := F) c 0
  have hms1 := mayWait_ssm (F := F) c 1
  have hms2 := mayWait_ssm (F := F) c 2
  have hmr00 := mayWait_rsm (F := F) c 0 0
  have hmr01 := mayWait_rsm (F := F) c 0 1
  have hmr02 := mayWait_rsm (F := F) c 0 2
  have hmr10 := mayWait_rsm (F := F) c 1 0
  have hmr11 := mayWait_rsm (F := F) c 1 1
  have hmr12 := mayWait_rsm (F := F) c 1 2
  have hmr20 := mayWait_rsm (F := F) c 2 0
  have hmr21 := mayWait_rsm (F := F) c 2 1
  have hmr22 := mayWait_rsm (F := F) c 2 2
  have hmb := mayWait_bar (F := F) c
  ihave B3 := (snd_deal c rfl) $$ B
  icases B3 with ⟨PS0_pay1, PS1_pay1, PS2_pay1⟩
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave PB_pay2 := (bar_open _ _ _) $$ PB_pay1
  icases PB_pay2 with ⟨⟨D00, D10, D20⟩, ⟨D01, D11, D21⟩, ⟨D02, D12, D22⟩⟩
  ihave D00 := (slot_open 0 0 _) $$ D00
  icases D00 with ⟨%fd00, D00⟩
  ihave D01 := (slot_open 0 1 _) $$ D01
  icases D01 with ⟨%fd01, D01⟩
  ihave D02 := (slot_open 0 2 _) $$ D02
  icases D02 with ⟨%fd02, D02⟩
  rw [pay13_eq, pay12_eq A X 0 c]
  rotate_left
  · exact prod_eq A X ((shapeCast_self _ _).trans (x_load _ _))
      ((win_load 0 _ _ _ _ _).trans rfl)
      ((win_load 1 _ _ _ _ _).trans rfl)
      ((win_load 2 _ _ _ _ _).trans rfl)
      ((win_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
  ihave B := (snd_join c _) $$ [PS0_pay1 PS1_pay1 PS2_pay1]
  · isplitl [PS0_pay1]; · iexact PS0_pay1
    isplitl [PS1_pay1]; · iexact PS1_pay1
    iexact PS2_pay1
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave B3 := (snd_sent A X 0 c _ _ _) $$ B
  icases B3 with ⟨B0, B1, B2⟩
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave D10 := (slot_open 1 0 _) $$ D10
  icases D10 with ⟨%fd10, D10⟩
  ihave D11 := (slot_open 1 1 _) $$ D11
  icases D11 with ⟨%fd11, D11⟩
  ihave D12 := (slot_open 1 2 _) $$ D12
  icases D12 with ⟨%fd12, D12⟩
  rw [pay26_eq, pay25_eq A X 1 c]
  rotate_left
  · exact prod_eq A X (next_eq A X rfl ((rcv_load 0 0 _ _ _ _).trans rfl) ((rcv_load 0 1 _ _ _ _).trans rfl) ((rcv_load 0 2 _ _ _ _).trans rfl))
      ((win_load 0 _ _ _ _ _).trans rfl)
      ((win_load 1 _ _ _ _ _).trans rfl)
      ((win_load 2 _ _ _ _ _).trans rfl)
      ((win_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
  ihave B := (snd_join c _) $$ [PS0_pay1 PS1_pay1 PS2_pay1]
  · isplitl [PS0_pay1]; · iexact PS0_pay1
    isplitl [PS1_pay1]; · iexact PS1_pay1
    iexact PS2_pay1
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave B3 := (snd_sent A X 1 c _ _ _) $$ B
  icases B3 with ⟨B0, B1, B2⟩
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave D20 := (slot_open 2 0 _) $$ D20
  icases D20 with ⟨%fd20, D20⟩
  ihave D21 := (slot_open 2 1 _) $$ D21
  icases D21 with ⟨%fd21, D21⟩
  ihave D22 := (slot_open 2 2 _) $$ D22
  icases D22 with ⟨%fd22, D22⟩
  rw [pay42_eq, pay41_eq A X 2 c]
  rotate_left
  · refine (layer2_eq _ _ _ _ _ _ _ _ _ _ _ _ _).trans ?_
    exact prod_eq A X (next_eq A X rfl ((rcv_load 1 0 _ _ _ _).trans rfl) ((rcv_load 1 1 _ _ _ _).trans rfl) ((rcv_load 1 2 _ _ _ _).trans rfl))
      ((win_load 0 _ _ _ _ _).trans rfl)
      ((win_load 1 _ _ _ _ _).trans rfl)
      ((win_load 2 _ _ _ _ _).trans rfl)
      ((win_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
      ((wout_load 0 _ _ _ _ _).trans rfl)
      ((wout_load 1 _ _ _ _ _).trans rfl)
      ((wout_load 2 _ _ _ _ _).trans rfl)
      ((wout_load 3 _ _ _ _ _).trans rfl)
  ihave B := (snd_join c _) $$ [PS0_pay1 PS1_pay1 PS2_pay1]
  · isplitl [PS0_pay1]; · iexact PS0_pay1
    isplitl [PS1_pay1]; · iexact PS1_pay1
    iexact PS2_pay1
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  ihave B3 := (snd_sent A X 2 c _ _ _) $$ B
  icases B3 with ⟨B0, B1, B2⟩
  sl_exec (disch := (first | (with_reducible first | exact dev4_eq _ | exact dev5_eq _ | exact dev6_eq _ | exact dev7_eq _ | exact dev8_eq _ | exact dev9_eq _ | exact dev10_eq _ | exact dev11_eq _ | exact dev12_eq _) | ((repeat' (with_reducible first | apply above_add | apply above_zero | apply above_due | apply above_bar)) <;> decide)))
  rw [wp_ret]
  ihave HY := (out_final A X c _ _ _ _) $$ HY
  icases HY with ⟨%g, %hg, HY⟩
  have hv : g = xAt A X 3 c := hg (by
    delta body_run.sl.r_38
    exact (pay45_eq _ _ _ _).trans (next_eq A X (l := 2) rfl ((rcv_load 2 0 _ _ _ _).trans rfl) ((rcv_load 2 1 _ _ _ _).trans rfl)
      ((rcv_load 2 2 _ _ _ _).trans rfl)))
  subst hv
  ihave B := (snd_join c _) $$ [PS0_pay1 PS1_pay1 PS2_pay1]
  · isplitl [PS0_pay1]; · iexact PS0_pay1
    isplitl [PS1_pay1]; · iexact PS1_pay1
    iexact PS2_pay1
  imod (close_all (sAt A X) κ c) $$ [PB PS0 PS1 PS2 PR00 PR01 PR02 PR10 PR11 PR12 PR20 PR21 PR22] with HC
  · unfold invs donePos
    isplitr
    · isplitr; · iexact I0
      isplitr; · iexact IS0
      isplitr; · iexact IS1
      isplitr; · iexact IS2
      isplitr; · iexact IR00
      isplitr; · iexact IR01
      isplitr; · iexact IR02
      isplitr; · iexact IR10
      isplitr; · iexact IR11
      isplitr; · iexact IR12
      isplitr; · iexact IR20
      isplitr; · iexact IR21
      isplitr; · iexact IR22
      isplitr; · iexact IB1
      isplitr; · iexact IB2
      isplitr; · iexact IB3
      isplitr; · iexact IQ00
      isplitr; · iexact IQ01
      isplitr; · iexact IQ02
      isplitr; · iexact IQ10
      isplitr; · iexact IQ11
      isplitr; · iexact IQ12
      isplitr; · iexact IQ20
      isplitr; · iexact IQ21
      iexact IQ22
    isplitl [PB]; · iexact PB
    isplitl [PS0]; · iexact PS0
    isplitl [PS1]; · iexact PS1
    isplitl [PS2]; · iexact PS2
    isplitl [PR00]; · iexact PR00
    isplitl [PR01]; · iexact PR01
    isplitl [PR02]; · iexact PR02
    isplitl [PR10]; · iexact PR10
    isplitl [PR11]; · iexact PR11
    isplitl [PR12]; · iexact PR12
    isplitl [PR20]; · iexact PR20
    isplitl [PR21]; · iexact PR21
    iexact PR22
  imodintro
  unfold ended counters slots rings weights
  isplitl [HC]; · iexact HC
  isplitl [ZW0 ZW1 ZW2 ZW3 ZO0 ZO1 ZO2 ZO3]
  · isplitl [ZW0]; · iexact ZW0
    isplitl [ZW1]; · iexact ZW1
    isplitl [ZW2]; · iexact ZW2
    isplitl [ZW3]; · iexact ZW3
    isplitl [ZO0]; · iexact ZO0
    isplitl [ZO1]; · iexact ZO1
    isplitl [ZO2]; · iexact ZO2
    iexact ZO3
  isplitl [PR00_pay1 PR01_pay1 PR02_pay1 PR10_pay1 PR11_pay1 PR12_pay1 PR20_pay1 PR21_pay1 PR22_pay1]
  · isplitl [PR00_pay1]; · iapply (slot_close c 0 0 _); iexact PR00_pay1
    isplitl [PR01_pay1]; · iapply (slot_close c 0 1 _); iexact PR01_pay1
    isplitl [PR02_pay1]; · iapply (slot_close c 0 2 _); iexact PR02_pay1
    isplitl [PR10_pay1]; · iapply (slot_close c 1 0 _); iexact PR10_pay1
    isplitl [PR11_pay1]; · iapply (slot_close c 1 1 _); iexact PR11_pay1
    isplitl [PR12_pay1]; · iapply (slot_close c 1 2 _); iexact PR12_pay1
    isplitl [PR20_pay1]; · iapply (slot_close c 2 0 _); iexact PR20_pay1
    isplitl [PR21_pay1]; · iapply (slot_close c 2 1 _); iexact PR21_pay1
    iapply (slot_close c 2 2 _); iexact PR22_pay1
  isplitl [W0 W1 W2 W3 Q0 Q1 Q2 Q3]
  · isplitl [W0]; · iexists _; iexact W0
    isplitl [W1]; · iexists _; iexact W1
    isplitl [W2]; · iexists _; iexact W2
    isplitl [W3]; · iexists _; iexact W3
    isplitl [Q0]; · iexists _; iexact Q0
    isplitl [Q1]; · iexists _; iexact Q1
    isplitl [Q2]; · iexists _; iexact Q2
    iexists _; iexact Q3
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [B]; · iexists _; iexact B
  isplitl [HX]; · iexact HX
  isplitl [HY]; · iexact HY
  iexists _; iexact HO

end Cert.KernelIdeal.Run

end
-- ==== Proof.RunIdealLaunch.lean ====
module

public import proofs.«01_k».proof.Proof.RunIdealSlots
public import proofs.«01_k».proof.Proof.RunIdealRun
public import Idealize.ShloMosaic.Lib.Pipeline.Value
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch -/

variable (m : (ℓ : Loc nD τ sig) → Buf (Elt F) ℓ) (ρ : Dev nD → PrngReg)

/-- The state every device starts from. -/
abbrev s₀ : MemSt nD τ sig (Elt F) := ⟨m, fun _ => 0, ρ⟩
/-- The buffers of a device at launch. -/
abbrev mA (c : Dev nD) (b : Ref sig .tc) : Buf (Elt F) ((c : Thread nD τ).loc b) := m ((c : Thread nD τ).loc b)
/-- The activations, as staged. -/
abbrev mX (c : Dev nD) : FVec F S64x2048 .f32 := (win0_0.blk (0 : Fin 1)).view.read (Elt F) (m ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from: the cells, the credit, the levels, the weights. -/
def start (c : Dev nD) : sProp 𝕄 := iprop(G' (sAt (mA m) (mX m)) c ∗ credits c ∗ levAts L lv ∗ weights c (mA m c))
def Φ₀ (c : Dev nD) : sProp 𝕄 := iprop(start m c ∗ slots c ∗ rings c ∗ (∃ f, sndM.view.loc (c : Thread nD τ) ↦{fullShare} f) ∗ rest c)
/-- What it leaves: every cell closed, the weights unchanged. -/
def Φ₁ (c : Dev nD) : sProp 𝕄 :=
  iprop((counters c ∗ closed c) ∗ weights c (mA m c) ∗ slots c ∗ rings c ∗ (∃ f, sndM.view.loc (c : Thread nD τ) ↦{fullShare} f) ∗ rest c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => mX m c
    | ⟨1, _⟩ => xAt (mA m) (mX m) 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m c ∗ (dats m ρ 0 c).owesAt () t₀.succ ∗ stg c cc0_stg0_0 (mX m c) ∗ stg c cc0_stg1_0 (xAt (mA m) (mX m) 3 c))

theorem before_0 (c : Dev nD) (d) : (dats m ρ 0 c).before (0 : Fin 2) t₀ d = mX m c := by
  unfold Dat.before; rw [if_pos (by decide)]; rfl

set_option maxRecDepth 65536 in
/-- The body on core `c`, between what the launch gives it and what it leaves. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) winM (Memref.isWhole_whole _) woutM (Memref.isWhole_whole _) sndM (Memref.isWhole_whole _) rcvM (Memref.isWhole_whole _) cc0_scratch4 cc0_scratch5 cc0_scratch6 cc0_scratch7) (fun _ => bodyPost m ρ c)
  unfold bodyPre Φ₀ start G'
  iintro ⟨⟨⟨⟨%κ, HI, HM, HP, HT, HC⟩, Hcr, Hlev, Hw⟩, Hsl, Hri, Hs, Hrest⟩, Ho, ⟨%d0, %f0, %h0, Hx⟩, ⟨%d1, %f1, %h1, Hout⟩⟩
  rw [before_0] at h0
  subst h0
  unfold Dat.owesAt Pipeline.owesWithin
  icases Ho with ⟨%W, %hW, HO⟩
  iapply (wp_wand_r frame (wpE (defs₀ (F := F)) 𝒱₀ c none) Set.univ)
  isplitr [Hrest]
  · iapply (body_run (mA m) (mX m) κ c f1 W)
    isplitl [HI]; · iexact HI
    isplitl [HM]; · iexact HM
    isplitl [Hlev]; · iexact Hlev
    isplitl [HP]; · iexact HP
    isplitl [HT]; · iexact HT
    isplitl [Hcr]; · iexact Hcr
    isplitl [HC]; · iexact HC
    isplitl [Hsl]; · iexact Hsl
    isplitl [Hri]; · iexact Hri
    isplitl [Hw]; · iexact Hw
    isplitl [Hs]; · iexact Hs
    isplitl [Hx]; · iexact Hx
    isplitl [Hout]; · iexact Hout
    iexact HO
  iintro %u HE
  unfold ended
  icases HE with ⟨Hcl, HC, Hsl, Hri, Hw, Hs, Hx, Hout, ⟨%W', HO⟩⟩
  unfold bodyPost Φ₁ Dat.owesAt Pipeline.owesWithin
  rw [show (dats m ρ 0 c).owed t₀.succ = 0 from rfl]
  isplitl [Hcl HC Hw Hsl Hri Hs Hrest]
  · isplitl [Hcl HC]
    · isplitl [HC]; · iexact HC
      iexact Hcl
    isplitl [Hw]; · iexact Hw
    isplitl [Hsl]; · iexact Hsl
    isplitl [Hri]; · iexact Hri
    isplitl [Hs]; · iexact Hs
    iexact Hrest
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem share_eq (c : Dev nD) (w : Fin cfg0.W) : (dats m ρ 0 c).share w = fullShare := by unfold Dat.share; split <;> rfl

/-! ### The theorem's side conditions -/

theorem weights_eq (c : Dev nD) : (Pipeline.unscopedRestP Pipeline.Prefetch.none cfg0.spec c (fun b => m ((c : Thread nD τ).loc b)) : sProp 𝕄)
    = weights c (mA m c) := by
  rw [Pipeline.unscopedRestP_none]; exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sAt (mA m) (mX m)) c)
      ⊢ |={Set.univ}=> iprop(start m c ∗ emp) := by
  rw [weights_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split (F := F) c); iexact Hr

theorem phi1_exit (c : Dev nD) :
    (dats m ρ 0 c).Φ (Fin.last cfg0.N) ⊢ iprop((unscopedSems0 c ∗ weights c (mA m c)) ∗ Pipeline.ownSems0 osem c ∗ Pipeline.scopedRest cfg0.spec c) := by
  rw [show (dats m ρ 0 c).Φ (Fin.last cfg0.N) = Φ₁ m c from rfl]
  unfold Φ₁
  iintro ⟨Hc, Hw, Hr⟩
  ihave Hc := (sems_join (F := F) c) $$ Hc
  icases Hc with ⟨Hu, Ho⟩
  isplitl [Hu Hw]
  · isplitl [Hu]; · iexact Hu
    iexact Hw
  isplitl [Ho]; · iexact Ho
  iapply (scratch_join (F := F) c); iexact Hr

theorem above_O₀ (c : Dev nD) : Above 0 (O₀ c) := by
  unfold O₀
  (repeat' (with_reducible first | apply above_add | apply above_due | apply above_bar)) <;> decide

theorem waits (c : Dev nD) : (levAts L lv : sProp 𝕄) ⊢ Pipeline.cellsWaits cfgs (dats m ρ) () 0 c :=
  Pipeline.cellsWaits_intro cfgs (dats m ρ) () 0 c fun w s t => by
    have hO : Above 0 ((dats m ρ 0 c).owed t) := by
      rcases t with ⟨_ | _, ht⟩
      · exact above_O₀ c
      · exact above_zero 0
    fin_cases w <;> fin_cases s
    · exact mayWait_low c 0 (by decide) _ (by decide) hO
    · exact mayWait_low c 1 (by decide) _ (by decide) hO

/-! ### The run -/

def finalA (c : Dev nD) (w : Fin cfg0.W) : Buf (Elt F) ((cfg0.win w).arr.view.loc (c : Thread nD τ)) := (dats m ρ 0 c).arrAt w cfg0.N

/-- What is read of a device at the end beside its windows' arrays: its unscoped semaphores at zero, its weights as they were. -/
def QW (c : Dev nD) (s : MemSt nD τ sig (Elt F)) : Prop :=
  (∀ sm : SemLoc sig, sm.isScoped .tc = false → s.sem ((c.tc : Thread nD τ), sm) = 0)
    ∧ ∀ b ∈ ({main_arg1, main_arg2, main_arg3, main_arg4, main_arg5, main_arg6} : Finset (Ref sig .tc)), s.mem ((c : Thread nD τ).loc b) = m ((c : Thread nD τ).loc b)

theorem weights_list (c : Dev nD) : (weights c (mA m c) : sProp 𝕄)
    = bigSep ({main_arg1, main_arg2, main_arg3, main_arg4, main_arg5, main_arg6} : Finset (Ref sig .tc)) fun b => (((c : Thread nD τ).loc b) ↦{fullShare} mA m c b) := by
  rw [bigSep_eq_bigSepL_of_eq [main_arg1, main_arg2, main_arg3, main_arg4, main_arg5, main_arg6] (by decide) (by decide)]; rfl

def QC : PUnit × MemSt nD τ sig (Elt F) → Prop := fun r =>
  ∀ c : Dev nD, (∀ w : Fin cfg0.W, r.2.mem ((cfg0.win w).arr.view.loc (c : Thread nD τ)) = finalA m ρ c w)
    ∧ ∀ b ∈ ({main_arg1, main_arg2, main_arg3, main_arg4, main_arg5, main_arg6} : Finset (Ref sig .tc)), r.2.mem ((c : Thread nD τ).loc b) = m ((c : Thread nD τ).loc b)

theorem own_cells : (BI.own (((Emb.inl : Emb UB (UB × Counters)).trans embR) (initOf allCells allToks)) : sProp 𝕄) = BI.own (ER (initOf allCells allToks)) := by
  unfold ER embR; rfl

theorem fund : (ownU u₀ : sProp 𝕄) ⊢ |={Set.univ}=> iprop(BI.own (EP (initOf (Pipeline.cells cfgs cellOf_inj) (Pipeline.launchToks cfgs cellOf_inj)))
    ∗ bigSep Finset.univ (G (sAt (mA m) (mX m)))) := by
  unfold u₀
  iintro Hu
  ihave H := (ownU_pair _ _) $$ Hu
  icases H with ⟨HP, HX⟩
  ihave H := (own_pair_emb _ _ _) $$ HX
  icases H with ⟨HX, -⟩
  ihave HX := (Entails.of_eq own_cells) $$ HX
  imod (fund_cells (sAt (mA m) (mX m))) $$ HX with HG
  imodintro
  isplitl [HP] <;> iassumption

theorem read_end (c : Dev nD) (s' : Phys nD τ sig (Elt F)) :
    iprop((unscopedSems0 c ∗ weights c (mA m c)) ∗ emp ∗ SI s') ⊢ (|={Set.univ}=> iprop(⌜QW m c s'.mem⌝ ∗ SI s') : sProp 𝕄) := by
  rw [weights_list]
  iintro ⟨⟨Hu, Hw⟩, -, HSI⟩
  imod (Pipeline.unscopedSems0_read (X := unscopedSems0 c) (c := c) fupd_intro s') $$ [Hu HSI] with H
  · isplitl [Hu] <;> iassumption
  icases H with ⟨%h1, HSI⟩
  ihave H := (pointsTo_read_all _ (fun b : Ref sig .tc => (c : Thread nD τ).loc b) (fun b => mA m c b) s') $$ [Hw HSI]
  · isplitl [Hw] <;> iassumption
  icases H with ⟨%h2, HSI⟩
  imodintro
  isplitr; · ipureintro; exact ⟨h1, h2⟩
  iexact HSI

set_option maxRecDepth 8000 in
/-- At the mesh of four devices, for any float values, from any memory with zero counters: every weakly fair execution
    ends, and every final state has each device's result at the computed contents, its arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (sAt (mA m) (mX m))) (G' := G' (sAt (mA m) (mX m))) (u₀ := u₀)
    (hu₀ := fund m)
    (hglob := glob _)
    (hA := fun _ _ => rfl) (hpf := fun _ k => k.elim0)
    (X := start m) (Y := fun c => iprop(unscopedSems0 c ∗ weights c (mA m c))) (Z := fun _ => iprop(emp))
    (hX := start_intro m ρ) (hin := phi0_intro m ρ) (hout := phi1_exit m ρ)
    (QY := QW m)
    (hY := read_end m)
    (hQ := fun _ h hs => ⟨fun c => ⟨fun w => (h c).1 w, (h c).2.2.2⟩, sem_eq_zero hs fun c => (h c).2.2.1⟩)

/-- The activations after the run are as they were. -/
theorem finalA_0 (c : Dev nD) : finalA m ρ c (0 : Fin 2) = m ((c : Thread nD τ).loc main_arg0) :=
  (dats (F := F) m ρ 0 c).arrAt_in (0 : Fin 2) rfl _

theorem emb_whole (t : Fin cfg0.N) (x : S64x2048.Idx) : (win0_1.blk t).view.emb x = x := by
  rw [fin_N t]
  refine funext fun a => Fin.ext ?_
  fin_cases a
  · show 0 * 64 + 1 * (x 0).val = (x 0).val; omega
  · show 0 * 2048 + 1 * (x 1).val = (x 1).val; omega

/-- The result after the run is the activations after the last layer. -/
theorem finalA_1 (c : Dev nD) : finalA m ρ c (1 : Fin 2) = xAt (mA m) (mX m) 3 c :=
  (dats (F := F) m ρ 0 c).arrAt_eq_of_cover (1 : Fin 2) (xAt (mA m) (mX m) 3 c)
    (fun t _ => by
      unfold Pipeline.Dat.flushed
      rw [fin_N t]
      funext x
      exact (congrArg (xAt (mA m) (mX m) 3 c) (emb_whole t₀ x)).symm)
    (fun i => ⟨t₀, by decide, Finset.mem_map.mpr ⟨i, Finset.mem_univ _, emb_whole t₀ i⟩⟩)

/-- The activations are staged as they are. -/
theorem mX_eq (c : Dev nD) : mX m c = m ((c : Thread nD τ).loc main_arg0) := by
  funext x
  refine congrArg (m ((c : Thread nD τ).loc main_arg0)) (funext fun a => Fin.ext ?_)
  fin_cases a
  · show 0 * 64 + 1 * (x 0).val = (x 0).val; omega
  · show 0 * 2048 + 1 * (x 1).val = (x 1).val; omega

end Cert.KernelIdeal.Run

end
-- ==== Proof.RunIdealValue.lean ====
module

public import proofs.«01_k».proof.Proof.RunIdealContents
public import proofs.«01_k».proof.ReferenceIdeal
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pointwise.Sums

/-! Over the extended reals the activations after the three layers are the reference's: each blocked product is the
whole product of that device's block, the four devices' partial products add up to the product with the whole
weights, and what is sent loses nothing. -/

@[expose] public section

noncomputable section

namespace Cert.KernelIdeal.Run

open Cert.KernelIdeal Cert.KernelIdeal.Gen
open Idealize.ShloMosaic hiding ix2 eq_ix2
open Idealize.ShloMosaic.TcCoe Idealize.ShloMosaic.ValueIdx
open scoped BigOperators

/-- One block of the first product, at an entry. -/
theorem mulIn_apply (x : FVec Ideal S64x2048 .f32) (w : FVec Ideal S2048x4096 .f32) (kb : Fin 4) (r : Fin 64) (j : Fin 4096) :
    mulIn x kb (rowsIn w kb) (ix2 r j)
      = ∑ t : Fin 512, x (ix2 r ⟨kb.val * 512 + t.val, by omega⟩) * w (ix2 ⟨kb.val * 512 + t.val, by omega⟩ j) := by
  show FloatOps.matmul (DotDims.plain 64 512 4096) none _ _ _ (ix2 r j) = _
  rw [Ideal.matmul_plain_apply]
  show Ideal.ofBits .f32 0x00000000#32 + _ = _
  rw [Ideal.ofBits_zero_f32, zero_add]
  refine Finset.sum_congr rfl fun t _ => congrArg₂ (· * ·) (congrArg x ?_) (congrArg w ?_)
  · funext a; apply Fin.ext
    match a with
    | ⟨0, _⟩ => show 0 + r.val = r.val; omega
    | ⟨1, _⟩ => show 512 * kb.val + t.val = kb.val * 512 + t.val; omega
  · funext a; apply Fin.ext
    match a with
    | ⟨0, _⟩ => show 512 * kb.val + 1 * t.val = kb.val * 512 + t.val; omega
    | ⟨1, _⟩ => show 0 + 1 * j.val = j.val; omega

/-- One block of the second product, at an entry. -/
theorem mulOut_apply (h : FVec Ideal S64x4096 .f32) (w : FVec Ideal S4096x2048 .f32) (jb : Fin 8) (r : Fin 64) (k : Fin 2048) :
    mulOut h jb (rowsOut w jb) (ix2 r k)
      = ∑ t : Fin 512, h (ix2 r ⟨jb.val * 512 + t.val, by omega⟩) * w (ix2 ⟨jb.val * 512 + t.val, by omega⟩ k) := by
  show FloatOps.matmul (DotDims.plain 64 512 2048) none _ _ _ (ix2 r k) = _
  rw [Ideal.matmul_plain_apply]
  show Ideal.ofBits .f32 0x00000000#32 + _ = _
  rw [Ideal.ofBits_zero_f32, zero_add]
  refine Finset.sum_congr rfl fun t _ => congrArg₂ (· * ·) (congrArg h ?_) (congrArg w ?_)
  · funext a; apply Fin.ext
    match a with
    | ⟨0, _⟩ => show 0 + r.val = r.val; omega
    | ⟨1, _⟩ => show 512 * jb.val + t.val = jb.val * 512 + t.val; omega
  · funext a; apply Fin.ext
    match a with
    | ⟨0, _⟩ => show 512 * jb.val + 1 * t.val = jb.val * 512 + t.val; omega
    | ⟨1, _⟩ => show 0 + 1 * k.val = k.val; omega

/-- A device's hidden layer, at an entry: the whole product, cut off below zero. -/
theorem hidOf_apply (x : FVec Ideal S64x2048 .f32) (w : FVec Ideal S2048x4096 .f32) (r : Fin 64) (j : Fin 4096) :
    hidOf x (rowsIn w 0) (rowsIn w 1) (rowsIn w 2) (rowsIn w 3) (ix2 r j)
      = max (∑ i : Fin 2048, x (ix2 r i) * w (ix2 i j)) 0 := by
  show max (Ideal.ofBits .f32 0x00000000#32 + mulIn x 0 (rowsIn w 0) (ix2 r j) + mulIn x 1 (rowsIn w 1) (ix2 r j)
    + mulIn x 2 (rowsIn w 2) (ix2 r j) + mulIn x 3 (rowsIn w 3) (ix2 r j)) (Ideal.ofBits .f32 0x00000000#32) = _
  rw [Ideal.ofBits_zero_f32, zero_add, mulIn_apply, mulIn_apply, mulIn_apply, mulIn_apply,
    Fin.sum_univ_tiles 4 512 rfl fun i : Fin 2048 => x (ix2 r i) * w (ix2 i j), Fin.sum_univ_four]

/-- A device's partial product from its hidden layer, at an entry. -/
theorem prodOf_apply (h : FVec Ideal S64x4096 .f32) (w : FVec Ideal S4096x2048 .f32) (r : Fin 64) (k : Fin 2048) :
    prodOf h (rowsOut w 0) (rowsOut w 1) (rowsOut w 2) (rowsOut w 3) (rowsOut w 4) (rowsOut w 5) (rowsOut w 6) (rowsOut w 7) (ix2 r k)
      = ∑ j : Fin 4096, h (ix2 r j) * w (ix2 j k) := by
  show Ideal.ofBits .f32 0x00000000#32 + mulOut h 0 (rowsOut w 0) (ix2 r k) + mulOut h 1 (rowsOut w 1) (ix2 r k)
    + mulOut h 2 (rowsOut w 2) (ix2 r k) + mulOut h 3 (rowsOut w 3) (ix2 r k) + mulOut h 4 (rowsOut w 4) (ix2 r k)
    + mulOut h 5 (rowsOut w 5) (ix2 r k) + mulOut h 6 (rowsOut w 6) (ix2 r k) + mulOut h 7 (rowsOut w 7) (ix2 r k) = _
  rw [Ideal.ofBits_zero_f32, zero_add, mulOut_apply, mulOut_apply, mulOut_apply, mulOut_apply, mulOut_apply, mulOut_apply,
    mulOut_apply, mulOut_apply, Fin.sum_univ_tiles 8 512 rfl fun j : Fin 4096 => h (ix2 r j) * w (ix2 j k), Fin.sum_univ_eight]

/-- A device's partial product of a layer, at an entry. -/
theorem part_apply (x : FVec Ideal S64x2048 .f32) (w : FVec Ideal S2048x4096 .f32) (w' : FVec Ideal S4096x2048 .f32)
    (r : Fin 64) (k : Fin 2048) :
    part x w w' (ix2 r k) = ∑ j : Fin 4096, max (∑ i : Fin 2048, x (ix2 r i) * w (ix2 i j)) 0 * w' (ix2 j k) := by
  unfold part
  rw [prodOf_apply]
  exact Finset.sum_congr rfl fun j _ => by rw [hidOf_apply]

/-- The sum over a device and its three peers is the sum over all devices. -/
theorem sum_peers {M : Type} [AddCommMonoid M] (f : Dev nD → M) (c : Dev nD) :
    f c + f (peer 3 c) + f (peer 2 c) + f (peer 1 c) = ∑ d : Dev nD, f d := by
  have e : ∑ d : Dev nD, f d = f 0 + f 1 + f 2 + f 3 := Fin.sum_univ_four (M := M) f
  rw [e]
  have h : ∀ c : Dev nD, c = 0 ∧ peer 3 c = 3 ∧ peer 2 c = 2 ∧ peer 1 c = 1 ∨ c = 1 ∧ peer 3 c = 0 ∧ peer 2 c = 3 ∧ peer 1 c = 2
      ∨ c = 2 ∧ peer 3 c = 1 ∧ peer 2 c = 0 ∧ peer 1 c = 3 ∨ c = 3 ∧ peer 3 c = 2 ∧ peer 2 c = 1 ∧ peer 1 c = 0 := by decide
  rcases h c with ⟨h0, h3, h2, h1⟩ | ⟨h0, h3, h2, h1⟩ | ⟨h0, h3, h2, h1⟩ | ⟨h0, h3, h2, h1⟩ <;> rw [h3, h2, h1, h0] <;> ac_rfl

/-- One layer of the reference. -/
def layer (x : FVec Ideal S64x2048 .f32) (W : FVec Ideal ⟨2, ![2048, 16384]⟩ .f32) (W' : FVec Ideal ⟨2, ![16384, 2048]⟩ .f32) :
    FVec Ideal S64x2048 .f32 :=
  Host.dotGeneral (DotDims.plain 64 16384 2048) none
    (maximumf (Host.dotGeneral (DotDims.plain 64 2048 16384) none x W)
      (fun _ => (FloatOps.ofBits .f32 0x00000000#32 : Ideal .f32))) W'

/-- One layer of the reference, at an entry. -/
theorem layer_apply (x : FVec Ideal S64x2048 .f32) (W : FVec Ideal ⟨2, ![2048, 16384]⟩ .f32) (W' : FVec Ideal ⟨2, ![16384, 2048]⟩ .f32)
    (r : Fin 64) (k : Fin 2048) :
    layer x W W' (ix2 r k) = ∑ j : Fin 16384, max (∑ i : Fin 2048, x (ix2 r i) * W (ix2 i j)) 0 * W' (ix2 j k) := by
  unfold layer
  rw [StackMember.dotGeneral_plain_apply]
  refine Finset.sum_congr rfl fun j _ => congrArg (· * W' (ix2 j k)) ?_
  show max (Host.dotGeneral (DotDims.plain 64 2048 16384) none x W (ix2 r j)) (Ideal.ofBits .f32 0x00000000#32) = _
  rw [StackMember.dotGeneral_plain_apply, Ideal.ofBits_zero_f32]

/-- The partial products of all devices, each from its columns of the first weights and its rows of the second, add up
to the layer with the whole weights. -/
theorem sum_part (x : FVec Ideal S64x2048 .f32) (W : FVec Ideal ⟨2, ![2048, 16384]⟩ .f32) (W' : FVec Ideal ⟨2, ![16384, 2048]⟩ .f32)
    (r : Fin 64) (k : Fin 2048) :
    ∑ d : Dev nD, part x (Layout.block ⟨2, ![2048, 4096]⟩ ⟨2, ![2048, 16384]⟩ 1 4 d W)
        (Layout.block ⟨2, ![4096, 2048]⟩ ⟨2, ![16384, 2048]⟩ 0 4 d W') (ix2 r k)
      = layer x W W' (ix2 r k) := by
  rw [layer_apply, Fin.sum_univ_tiles 4 4096 rfl]
  refine Finset.sum_congr rfl fun d _ => ?_
  rw [part_apply]
  refine Finset.sum_congr rfl fun j _ => congrArg₂ (fun a b => max a 0 * b) (Finset.sum_congr rfl fun i _ => ?_) ?_
  · refine congrArg (x (ix2 r i) * ·) ((Layout.block_apply ..).trans (congrArg W ?_))
    funext a; apply Fin.ext
    match a with
    | ⟨0, _⟩ => rfl
    | ⟨1, _⟩ => rfl
  · refine (Layout.block_apply ..).trans (congrArg W' ?_)
    funext a; apply Fin.ext
    match a with
    | ⟨0, _⟩ => rfl
    | ⟨1, _⟩ => rfl

section Layers
variable (A : (c : Dev nD) → (b : Ref sig .tc) → Buf (Elt Ideal) ((c : Thread nD τ).loc b))
variable (X : Dev nD → FVec Ideal S64x2048 .f32)

/-- One exchange: if every device starts a layer with the same activations and holds its blocks of the weights, every
device ends it with the layer's activations. -/
theorem xAt_layer (l : ℕ) (x : FVec Ideal S64x2048 .f32) (W : FVec Ideal ⟨2, ![2048, 16384]⟩ .f32)
    (W' : FVec Ideal ⟨2, ![16384, 2048]⟩ .f32) (hx : ∀ c, xAt A X l c = x)
    (hW : ∀ c, wIn A l c = Layout.block ⟨2, ![2048, 4096]⟩ ⟨2, ![2048, 16384]⟩ 1 4 c W)
    (hW' : ∀ c, wOut A l c = Layout.block ⟨2, ![4096, 2048]⟩ ⟨2, ![16384, 2048]⟩ 0 4 c W') (c : Dev nD) :
    xAt A X (l + 1) c = layer x W W' := by
  funext y
  obtain ⟨r, k, rfl⟩ : ∃ (r : Fin 64) (k : Fin 2048), y = ix2 r k := ⟨_, _, eq_ix2 y⟩
  have hp : ∀ d, pAt A X l d = part x (Layout.block ⟨2, ![2048, 4096]⟩ ⟨2, ![2048, 16384]⟩ 1 4 d W)
      (Layout.block ⟨2, ![4096, 2048]⟩ ⟨2, ![16384, 2048]⟩ 0 4 d W') := fun d => by unfold pAt; rw [hx, hW, hW']
  rw [xAt_succ, ← sum_part x W W' r k, ← sum_peers _ c, ← hp, ← hp, ← hp, ← hp]
  rfl

/-- After the three layers every device holds the reference's activations. -/
theorem xAt_three (x : FVec Ideal S64x2048 .f32) (W0 W1 W2 : FVec Ideal ⟨2, ![2048, 16384]⟩ .f32)
    (V0 V1 V2 : FVec Ideal ⟨2, ![16384, 2048]⟩ .f32) (hx : ∀ c, X c = x)
    (h1 : ∀ c, A c main_arg1 = Layout.block ⟨2, ![2048, 4096]⟩ ⟨2, ![2048, 16384]⟩ 1 4 c W0)
    (h2 : ∀ c, A c main_arg2 = Layout.block ⟨2, ![4096, 2048]⟩ ⟨2, ![16384, 2048]⟩ 0 4 c V0)
    (h3 : ∀ c, A c main_arg3 = Layout.block ⟨2, ![2048, 4096]⟩ ⟨2, ![2048, 16384]⟩ 1 4 c W1)
    (h4 : ∀ c, A c main_arg4 = Layout.block ⟨2, ![4096, 2048]⟩ ⟨2, ![16384, 2048]⟩ 0 4 c V1)
    (h5 : ∀ c, A c main_arg5 = Layout.block ⟨2, ![2048, 4096]⟩ ⟨2, ![2048, 16384]⟩ 1 4 c W2)
    (h6 : ∀ c, A c main_arg6 = Layout.block ⟨2, ![4096, 2048]⟩ ⟨2, ![16384, 2048]⟩ 0 4 c V2) (c : Dev nD) :
    xAt A X 3 c = layer (layer (layer x W0 V0) W1 V1) W2 V2 :=
  xAt_layer A X 2 _ W2 V2 (xAt_layer A X 1 _ W1 V1 (xAt_layer A X 0 x W0 V0 hx h1 h2) h3 h4) h5 h6 c

end Layers

end Cert.KernelIdeal.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunIdealLaunch
public import proofs.«01_k».proof.Proof.RunIdealValue
public import proofs.«01_k».proof.Proof.RunBitsLaunch
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel ends on every mesh of four devices with its arguments unchanged and every counter at zero: its run, the
values dropped. -/
theorem frame_kernel : Cert.quiescent_Kernel := fun m ρ _ =>
  (θ_run Cert.Kernel.defs _ _).mono (fun _ h =>
      ⟨fun c => ⟨((h.1 c).1 0).trans (Cert.Kernel.Run.finalA_0 m ρ c), (h.1 c).2 _ (by decide), (h.1 c).2 _ (by decide),
        (h.1 c).2 _ (by decide), (h.1 c).2 _ (by decide), (h.1 c).2 _ (by decide), (h.1 c).2 _ (by decide)⟩, h.2⟩)
    (Cert.Kernel.Run.run_main m ρ)

/-- The same of the idealized kernel. -/
theorem frame_kernelIdeal : Cert.quiescent_KernelIdeal := fun m ρ _ =>
  (θ_run Cert.KernelIdeal.defs _ _).mono (fun _ h =>
      ⟨fun c => ⟨((h.1 c).1 0).trans (Cert.KernelIdeal.Run.finalA_0 m ρ c), (h.1 c).2 _ (by decide), (h.1 c).2 _ (by decide),
        (h.1 c).2 _ (by decide), (h.1 c).2 _ (by decide), (h.1 c).2 _ (by decide), (h.1 c).2 _ (by decide)⟩, h.2⟩)
    (Cert.KernelIdeal.Run.run_main m ρ)

/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's: the three layers of the whole arrays. -/
theorem algebraic : Cert.algebraic_KernelIdeal_ReferenceIdeal := by
  intro m ρ m' ρ' _ hag
  refine ⟨Cert.KernelIdeal.Run.layer (Cert.KernelIdeal.Run.layer (Cert.KernelIdeal.Run.layer
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2)))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)))
      (m' (((0 : Dev Cert.ReferenceIdeal.nD).tc : Thread _ Cert.ReferenceIdeal.τ).loc Cert.ReferenceIdeal.main_arg5))
      (m' (((0 : Dev Cert.ReferenceIdeal.nD).tc : Thread _ Cert.ReferenceIdeal.τ).loc Cert.ReferenceIdeal.main_arg6)), ?_, ?_⟩
  · refine (θ_run Cert.KernelIdeal.defs _ _).mono (fun _ h c =>
      ⟨((h.1 c).1 1).trans ((Cert.KernelIdeal.Run.finalA_1 m ρ c).trans ?_),
        ((h.1 c).1 0).trans (Cert.KernelIdeal.Run.finalA_0 m ρ c), (h.1 c).2 _ (by decide), (h.1 c).2 _ (by decide),
        (h.1 c).2 _ (by decide), (h.1 c).2 _ (by decide), (h.1 c).2 _ (by decide), (h.1 c).2 _ (by decide)⟩)
      (Cert.KernelIdeal.Run.run_main m ρ)
    exact Cert.KernelIdeal.Run.xAt_three _ _ _ _ _ _ _ _ _ (fun c => (Cert.KernelIdeal.Run.mX_eq m c).trans (hag c).1)
      (fun c => (hag c).2.1) (fun c => (hag c).2.2.1) (fun c => (hag c).2.2.2.1) (fun c => (hag c).2.2.2.2.1)
      (fun c => (hag c).2.2.2.2.2.1) (fun c => (hag c).2.2.2.2.2.2) c
  · exact (θ_run Cert.ReferenceIdeal.defs _ _).mono (fun _ h => ⟨(h 0).1.trans (by rfl), (h 0).2⟩)
      (Cert.ReferenceIdeal.Value.run (F := Ideal) m' ρ')

/-- The claims together, after the facts of the three programs. -/
theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
